-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![2, 128, 8, 64]⟩ ⟨4, ![2, 2048, 8, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![2, 128, 8, 64]⟩ ⟨4, ![2, 2048, 8, 64]⟩ 1 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v60) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S2x8x64x128 : Shape := ⟨4, ![2, 8, 64, 128]⟩
abbrev S2x8x2x128 : Shape := ⟨4, ![2, 8, 2, 128]⟩
abbrev S4x4x2x2x64x128 : Shape := ⟨6, ![4, 4, 2, 2, 64, 128]⟩
abbrev S4x4x2x2x2x128 : Shape := ⟨6, ![4, 4, 2, 2, 2, 128]⟩
abbrev S4x4 : Shape := ⟨2, ![4, 4]⟩
abbrev S_ : Shape := ⟨0, ![]⟩
abbrev S256x512 : Shape := ⟨2, ![256, 512]⟩
abbrev S128x64 : Shape := ⟨2, ![128, 64]⟩
abbrev S1x128x1x64 : Shape := ⟨4, ![1, 128, 1, 64]⟩
abbrev S128x128 : Shape := ⟨2, ![128, 128]⟩
abbrev S128 : Shape := ⟨1, ![128]⟩
abbrev S1x128 : Shape := ⟨2, ![1, 128]⟩
abbrev S64x128 : Shape := ⟨2, ![64, 128]⟩
abbrev S1x1x64x128 : Shape := ⟨4, ![1, 1, 64, 128]⟩
abbrev S1x1x1x128 : Shape := ⟨4, ![1, 1, 1, 128]⟩
abbrev S1x1x1x1x64x128 : Shape := ⟨6, ![1, 1, 1, 1, 64, 128]⟩
abbrev S1x1x1x1x1x128 : Shape := ⟨6, ![1, 1, 1, 1, 1, 128]⟩
abbrev S1x1 : Shape := ⟨2, ![1, 1]⟩
abbrev S1x1x2x2x64x128 : Shape := ⟨6, ![1, 1, 2, 2, 64, 128]⟩
abbrev S2x2x64x128 : Shape := ⟨4, ![2, 2, 64, 128]⟩
abbrev S1x1x2x2x2x128 : Shape := ⟨6, ![1, 1, 2, 2, 2, 128]⟩
abbrev S2x2x2x128 : Shape := ⟨4, ![2, 2, 2, 128]⟩
abbrev S1x1x2x2x1x128 : Shape := ⟨6, ![1, 1, 2, 2, 1, 128]⟩
abbrev S2x2x1x128 : Shape := ⟨4, ![2, 2, 1, 128]⟩
abbrev S2x4x64x128 : Shape := ⟨4, ![2, 4, 64, 128]⟩
abbrev S2x4x1x128 : Shape := ⟨4, ![2, 4, 1, 128]⟩
abbrev S2x256x128 : Shape := ⟨3, ![2, 256, 128]⟩
abbrev S1x256x128 : Shape := ⟨3, ![1, 256, 128]⟩
abbrev S256x128 : Shape := ⟨2, ![256, 128]⟩
abbrev S128x512 : Shape := ⟨2, ![128, 512]⟩
abbrev S1x128x512 : Shape := ⟨3, ![1, 128, 512]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S512x512, .bf16⟩
  | .hbm, ⟨3, _⟩ => ⟨S2x128x8x64, .bf16⟩
  | .hbm, ⟨4, _⟩ => ⟨S2x128x8x64, .bf16⟩
  | .hbm, ⟨5, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x128x8x64, .bf16⟩
  | .local _ .vmem, ⟨4, _⟩ => ⟨S2x128x8x64, .bf16⟩
  | .local _ .vmem, ⟨5, _⟩ => ⟨S2x128x512, .f32⟩
  | .local _ .vmem, ⟨6, _⟩ => ⟨S2x8x64x128, .f32⟩
  | .local _ .vmem, ⟨7, _⟩ => ⟨S2x8x2x128, .f32⟩
  | .local _ .vmem, ⟨8, _⟩ => ⟨S4x4x2x2x64x128, .bf16⟩
  | .local _ .vmem, ⟨9, _⟩ => ⟨S4x4x2x2x64x128, .bf16⟩
  | .local _ .vmem, ⟨10, _⟩ => ⟨S4x4x2x2x2x128, .f32⟩
  | .local _ .vmem, ⟨11, _⟩ => ⟨S4x4x2x2x2x128, .f32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 2 → Bool
  | ⟨0, _⟩ => false
  | ⟨1, _⟩ => true
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 2 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_2 : BitVec 32 := 1#32
  let v8 : BitVec 32 := Scalar.muli v3 c1_i32_2
  let v9 : BitVec 32 := Scalar.addi c0_i32 v8
  v9.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_4 : BitVec 32 := 1#32
  let v10 : BitVec 32 := Scalar.muli v4 c1_i32_4
  let v11 : BitVec 32 := Scalar.addi c0_i32_5 v10
  v11.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_7 : BitVec 32 := 1#32
  let v12 : BitVec 32 := Scalar.muli v5 c1_i32_7
  let v13 : BitVec 32 := Scalar.addi c0_i32_8 v12
  v13.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_10 : BitVec 32 := 1#32
  let v14 : BitVec 32 := Scalar.muli v6 c1_i32_10
  let v15 : BitVec 32 := Scalar.addi c0_i32_11 v14
  v15.toNat
def k0_dev5 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_12 : BitVec 32 := 1#32
  let v16 : BitVec 32 := Scalar.xori v2 c1_i32_12
  let c1_i32_209 : BitVec 32 := 1#32
  let v177 : BitVec 32 := Scalar.muli v16 c1_i32_209
  let v178 : BitVec 32 := Scalar.addi c0_i32_210 v177
  v178.toNat
def k0_dev6 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_12 : BitVec 32 := 1#32
  let v16 : BitVec 32 := Scalar.xori v2 c1_i32_12
  let c1_i32_227 : BitVec 32 := 1#32
  let v187 : BitVec 32 := Scalar.muli v16 c1_i32_227
  let v188 : BitVec 32 := Scalar.addi c0_i32_228 v187
  v188.toNat
def k0_dev7 (d0 : Dev nD) : Nat :=
  let c0_i32_412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v20 : BitVec 32 := Scalar.xori v2 c3_i32_16
  let c1_i32_411 : BitVec 32 := 1#32
  let v333 : BitVec 32 := Scalar.muli v20 c1_i32_411
  let v334 : BitVec 32 := Scalar.addi c0_i32_412 v333
  v334.toNat
def k0_dev8 (d0 : Dev nD) : Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v20 : BitVec 32 := Scalar.xori v2 c3_i32_16
  let c1_i32_429 : BitVec 32 := 1#32
  let v343 : BitVec 32 := Scalar.muli v20 c1_i32_429
  let v344 : BitVec 32 := Scalar.addi c0_i32_430 v343
  v344.toNat
def k0_dev9 (d0 : Dev nD) : Nat :=
  let c0_i32_613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_20 : BitVec 32 := 4#32
  let v24 : BitVec 32 := Scalar.xori v2 c4_i32_20
  let c1_i32_612 : BitVec 32 := 1#32
  let v489 : BitVec 32 := Scalar.muli v24 c1_i32_612
  let v490 : BitVec 32 := Scalar.addi c0_i32_613 v489
  v490.toNat
def k0_dev10 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_20 : BitVec 32 := 4#32
  let v24 : BitVec 32 := Scalar.xori v2 c4_i32_20
  let c1_i32_630 : BitVec 32 := 1#32
  let v499 : BitVec 32 := Scalar.muli v24 c1_i32_630
  let v500 : BitVec 32 := Scalar.addi c0_i32_631 v499
  v500.toNat
def k0_dev11 (d0 : Dev nD) : Nat :=
  let c0_i32_815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_24 : BitVec 32 := 8#32
  let v28 : BitVec 32 := Scalar.xori v2 c8_i32_24
  let c1_i32_814 : BitVec 32 := 1#32
  let v645 : BitVec 32 := Scalar.muli v28 c1_i32_814
  let v646 : BitVec 32 := Scalar.addi c0_i32_815 v645
  v646.toNat
def k0_dev12 (d0 : Dev nD) : Nat :=
  let c0_i32_833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_24 : BitVec 32 := 8#32
  let v28 : BitVec 32 := Scalar.xori v2 c8_i32_24
  let c1_i32_832 : BitVec 32 := 1#32
  let v655 : BitVec 32 := Scalar.muli v28 c1_i32_832
  let v656 : BitVec 32 := Scalar.addi c0_i32_833 v655
  v656.toNat
def k0_dev13 (d0 : Dev nD) : Nat :=
  let c0_i32_981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_13 : BitVec 32 := 3#32
  let v17 : BitVec 32 := Scalar.xori v2 c3_i32_13
  let c1_i32_980 : BitVec 32 := 1#32
  let v735 : BitVec 32 := Scalar.muli v17 c1_i32_980
  let v736 : BitVec 32 := Scalar.addi c0_i32_981 v735
  v736.toNat
def k0_dev14 (d0 : Dev nD) : Nat :=
  let c0_i32_999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_13 : BitVec 32 := 3#32
  let v17 : BitVec 32 := Scalar.xori v2 c3_i32_13
  let c1_i32_998 : BitVec 32 := 1#32
  let v745 : BitVec 32 := Scalar.muli v17 c1_i32_998
  let v746 : BitVec 32 := Scalar.addi c0_i32_999 v745
  v746.toNat
def k0_dev15 (d0 : Dev nD) : Nat :=
  let c0_i32_1147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_17 : BitVec 32 := 4#32
  let v21 : BitVec 32 := Scalar.xori v2 c4_i32_17
  let c1_i32_1146 : BitVec 32 := 1#32
  let v825 : BitVec 32 := Scalar.muli v21 c1_i32_1146
  let v826 : BitVec 32 := Scalar.addi c0_i32_1147 v825
  v826.toNat
def k0_dev16 (d0 : Dev nD) : Nat :=
  let c0_i32_1165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_17 : BitVec 32 := 4#32
  let v21 : BitVec 32 := Scalar.xori v2 c4_i32_17
  let c1_i32_1164 : BitVec 32 := 1#32
  let v835 : BitVec 32 := Scalar.muli v21 c1_i32_1164
  let v836 : BitVec 32 := Scalar.addi c0_i32_1165 v835
  v836.toNat
def k0_dev17 (d0 : Dev nD) : Nat :=
  let c0_i32_1313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_21 : BitVec 32 := 8#32
  let v25 : BitVec 32 := Scalar.xori v2 c8_i32_21
  let c1_i32_1312 : BitVec 32 := 1#32
  let v915 : BitVec 32 := Scalar.muli v25 c1_i32_1312
  let v916 : BitVec 32 := Scalar.addi c0_i32_1313 v915
  v916.toNat
def k0_dev18 (d0 : Dev nD) : Nat :=
  let c0_i32_1331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_21 : BitVec 32 := 8#32
  let v25 : BitVec 32 := Scalar.xori v2 c8_i32_21
  let c1_i32_1330 : BitVec 32 := 1#32
  let v925 : BitVec 32 := Scalar.muli v25 c1_i32_1330
  let v926 : BitVec 32 := Scalar.addi c0_i32_1331 v925
  v926.toNat
def k0_dev19 (d0 : Dev nD) : Nat :=
  let c0_i32_1479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_25 : BitVec 32 := 1#32
  let v29 : BitVec 32 := Scalar.xori v2 c1_i32_25
  let c1_i32_1478 : BitVec 32 := 1#32
  let v1005 : BitVec 32 := Scalar.muli v29 c1_i32_1478
  let v1006 : BitVec 32 := Scalar.addi c0_i32_1479 v1005
  v1006.toNat
def k0_dev20 (d0 : Dev nD) : Nat :=
  let c0_i32_1497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_25 : BitVec 32 := 1#32
  let v29 : BitVec 32 := Scalar.xori v2 c1_i32_25
  let c1_i32_1496 : BitVec 32 := 1#32
  let v1015 : BitVec 32 := Scalar.muli v29 c1_i32_1496
  let v1016 : BitVec 32 := Scalar.addi c0_i32_1497 v1015
  v1016.toNat
def k0_dev21 (d0 : Dev nD) : Nat :=
  let c0_i32_1645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_14 : BitVec 32 := 4#32
  let v18 : BitVec 32 := Scalar.xori v2 c4_i32_14
  let c1_i32_1644 : BitVec 32 := 1#32
  let v1095 : BitVec 32 := Scalar.muli v18 c1_i32_1644
  let v1096 : BitVec 32 := Scalar.addi c0_i32_1645 v1095
  v1096.toNat
def k0_dev22 (d0 : Dev nD) : Nat :=
  let c0_i32_1663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_14 : BitVec 32 := 4#32
  let v18 : BitVec 32 := Scalar.xori v2 c4_i32_14
  let c1_i32_1662 : BitVec 32 := 1#32
  let v1105 : BitVec 32 := Scalar.muli v18 c1_i32_1662
  let v1106 : BitVec 32 := Scalar.addi c0_i32_1663 v1105
  v1106.toNat
def k0_dev23 (d0 : Dev nD) : Nat :=
  let c0_i32_1811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_18 : BitVec 32 := 8#32
  let v22 : BitVec 32 := Scalar.xori v2 c8_i32_18
  let c1_i32_1810 : BitVec 32 := 1#32
  let v1185 : BitVec 32 := Scalar.muli v22 c1_i32_1810
  let v1186 : BitVec 32 := Scalar.addi c0_i32_1811 v1185
  v1186.toNat
def k0_dev24 (d0 : Dev nD) : Nat :=
  let c0_i32_1829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_18 : BitVec 32 := 8#32
  let v22 : BitVec 32 := Scalar.xori v2 c8_i32_18
  let c1_i32_1828 : BitVec 32 := 1#32
  let v1195 : BitVec 32 := Scalar.muli v22 c1_i32_1828
  let v1196 : BitVec 32 := Scalar.addi c0_i32_1829 v1195
  v1196.toNat
def k0_dev25 (d0 : Dev nD) : Nat :=
  let c0_i32_1977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_22 : BitVec 32 := 1#32
  let v26 : BitVec 32 := Scalar.xori v2 c1_i32_22
  let c1_i32_1976 : BitVec 32 := 1#32
  let v1275 : BitVec 32 := Scalar.muli v26 c1_i32_1976
  let v1276 : BitVec 32 := Scalar.addi c0_i32_1977 v1275
  v1276.toNat
def k0_dev26 (d0 : Dev nD) : Nat :=
  let c0_i32_1995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_22 : BitVec 32 := 1#32
  let v26 : BitVec 32 := Scalar.xori v2 c1_i32_22
  let c1_i32_1994 : BitVec 32 := 1#32
  let v1285 : BitVec 32 := Scalar.muli v26 c1_i32_1994
  let v1286 : BitVec 32 := Scalar.addi c0_i32_1995 v1285
  v1286.toNat
def k0_dev27 (d0 : Dev nD) : Nat :=
  let c0_i32_2143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_26 : BitVec 32 := 3#32
  let v30 : BitVec 32 := Scalar.xori v2 c3_i32_26
  let c1_i32_2142 : BitVec 32 := 1#32
  let v1365 : BitVec 32 := Scalar.muli v30 c1_i32_2142
  let v1366 : BitVec 32 := Scalar.addi c0_i32_2143 v1365
  v1366.toNat
def k0_dev28 (d0 : Dev nD) : Nat :=
  let c0_i32_2161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_26 : BitVec 32 := 3#32
  let v30 : BitVec 32 := Scalar.xori v2 c3_i32_26
  let c1_i32_2160 : BitVec 32 := 1#32
  let v1375 : BitVec 32 := Scalar.muli v30 c1_i32_2160
  let v1376 : BitVec 32 := Scalar.addi c0_i32_2161 v1375
  v1376.toNat
def k0_dev29 (d0 : Dev nD) : Nat :=
  let c0_i32_2309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_15 : BitVec 32 := 8#32
  let v19 : BitVec 32 := Scalar.xori v2 c8_i32_15
  let c1_i32_2308 : BitVec 32 := 1#32
  let v1455 : BitVec 32 := Scalar.muli v19 c1_i32_2308
  let v1456 : BitVec 32 := Scalar.addi c0_i32_2309 v1455
  v1456.toNat
def k0_dev30 (d0 : Dev nD) : Nat :=
  let c0_i32_2327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_15 : BitVec 32 := 8#32
  let v19 : BitVec 32 := Scalar.xori v2 c8_i32_15
  let c1_i32_2326 : BitVec 32 := 1#32
  let v1465 : BitVec 32 := Scalar.muli v19 c1_i32_2326
  let v1466 : BitVec 32 := Scalar.addi c0_i32_2327 v1465
  v1466.toNat
def k0_dev31 (d0 : Dev nD) : Nat :=
  let c0_i32_2475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let v23 : BitVec 32 := Scalar.xori v2 c1_i32_19
  let c1_i32_2474 : BitVec 32 := 1#32
  let v1545 : BitVec 32 := Scalar.muli v23 c1_i32_2474
  let v1546 : BitVec 32 := Scalar.addi c0_i32_2475 v1545
  v1546.toNat
def k0_dev32 (d0 : Dev nD) : Nat :=
  let c0_i32_2493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let v23 : BitVec 32 := Scalar.xori v2 c1_i32_19
  let c1_i32_2492 : BitVec 32 := 1#32
  let v1555 : BitVec 32 := Scalar.muli v23 c1_i32_2492
  let v1556 : BitVec 32 := Scalar.addi c0_i32_2493 v1555
  v1556.toNat
def k0_dev33 (d0 : Dev nD) : Nat :=
  let c0_i32_2641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_23 : BitVec 32 := 3#32
  let v27 : BitVec 32 := Scalar.xori v2 c3_i32_23
  let c1_i32_2640 : BitVec 32 := 1#32
  let v1635 : BitVec 32 := Scalar.muli v27 c1_i32_2640
  let v1636 : BitVec 32 := Scalar.addi c0_i32_2641 v1635
  v1636.toNat
def k0_dev34 (d0 : Dev nD) : Nat :=
  let c0_i32_2659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_23 : BitVec 32 := 3#32
  let v27 : BitVec 32 := Scalar.xori v2 c3_i32_23
  let c1_i32_2658 : BitVec 32 := 1#32
  let v1645 : BitVec 32 := Scalar.muli v27 c1_i32_2658
  let v1646 : BitVec 32 := Scalar.addi c0_i32_2659 v1645
  v1646.toNat
def k0_dev35 (d0 : Dev nD) : Nat :=
  let c0_i32_2807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v31 : BitVec 32 := Scalar.xori v2 c4_i32_27
  let c1_i32_2806 : BitVec 32 := 1#32
  let v1725 : BitVec 32 := Scalar.muli v31 c1_i32_2806
  let v1726 : BitVec 32 := Scalar.addi c0_i32_2807 v1725
  v1726.toNat
def k0_dev36 (d0 : Dev nD) : Nat :=
  let c0_i32_2825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v31 : BitVec 32 := Scalar.xori v2 c4_i32_27
  let c1_i32_2824 : BitVec 32 := 1#32
  let v1735 : BitVec 32 := Scalar.muli v31 c1_i32_2824
  let v1736 : BitVec 32 := Scalar.addi c0_i32_2825 v1735
  v1736.toNat
def k0_dev37 (d0 : Dev nD) : Nat :=
  let c0_i32_3296_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_3295_r0 : BitVec 32 := 1#32
  let v2000_r0 : BitVec 32 := Scalar.muli v3 c1_i32_3295_r0
  let v2001_r0 : BitVec 32 := Scalar.addi c0_i32_3296_r0 v2000_r0
  v2001_r0.toNat
def k0_dev38 (d0 : Dev nD) : Nat :=
  let c0_i32_3299_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_3298_r0 : BitVec 32 := 1#32
  let v2002_r0 : BitVec 32 := Scalar.muli v4 c1_i32_3298_r0
  let v2003_r0 : BitVec 32 := Scalar.addi c0_i32_3299_r0 v2002_r0
  v2003_r0.toNat
def k0_dev39 (d0 : Dev nD) : Nat :=
  let c0_i32_3302_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_3301_r0 : BitVec 32 := 1#32
  let v2004_r0 : BitVec 32 := Scalar.muli v5 c1_i32_3301_r0
  let v2005_r0 : BitVec 32 := Scalar.addi c0_i32_3302_r0 v2004_r0
  v2005_r0.toNat
def k0_dev40 (d0 : Dev nD) : Nat :=
  let c0_i32_3305_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_3304_r0 : BitVec 32 := 1#32
  let v2006_r0 : BitVec 32 := Scalar.muli v6 c1_i32_3304_r0
  let v2007_r0 : BitVec 32 := Scalar.addi c0_i32_3305_r0 v2006_r0
  v2007_r0.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x512 : Shape := ⟨2, ![512, 512]⟩
abbrev S2x2048x8x64 : Shape := ⟨4, ![2, 2048, 8, 64]⟩
abbrev S2x128x8x64 : Shape := ⟨4, ![2, 128, 8, 64]⟩
abbrev S_ : Shape := ⟨0, ![]⟩
abbrev S2x8x128x1 : Shape := ⟨4, ![2, 8, 128, 1]⟩
abbrev S2x1024x8x64 : Shape := ⟨4, ![2, 1024, 8, 64]⟩
abbrev S2x8x128x1024 : Shape := ⟨4, ![2, 8, 128, 1024]⟩
abbrev S2x8x128 : Shape := ⟨3, ![2, 8, 128]⟩
abbrev S2x128x8x1 : Shape := ⟨4, ![2, 128, 8, 1]⟩
abbrev S2x8x64x128 : Shape := ⟨4, ![2, 8, 64, 128]⟩

abbrev nBuf : Space → Nat
  | .hbm => 75
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S512x512, .bf16⟩
  | .hbm, ⟨3, _⟩ => ⟨S2x2048x8x64, .bf16⟩
  | .hbm, ⟨4, _⟩ => ⟨S2x2048x8x64, .bf16⟩
  | .hbm, ⟨5, _⟩ => ⟨S2x128x512, .f32⟩
  | .hbm, ⟨6, _⟩ => ⟨S512x512, .f32⟩
  | .hbm, ⟨7, _⟩ => ⟨S512x512, .f32⟩
  | .hbm, ⟨8, _⟩ => ⟨S2x2048x8x64, .f32⟩
  | .hbm, ⟨9, _⟩ => ⟨S2x2048x8x64, .f32⟩
  | .hbm, ⟨10, _⟩ => ⟨S2x128x512, .f32⟩
  | .hbm, ⟨11, _⟩ => ⟨S2x128x8x64, .f32⟩
  | .hbm, ⟨12, _⟩ => ⟨S_, .f32⟩
  | .hbm, ⟨13, _⟩ => ⟨S2x128x8x64, .f32⟩
  | .hbm, ⟨14, _⟩ => ⟨S_, .f32⟩
  | .hbm, ⟨15, _⟩ => ⟨S2x8x128x1, .f32⟩
  | .hbm, ⟨16, _⟩ => ⟨S_, .f32⟩
  | .hbm, ⟨17, _⟩ => ⟨S2x8x128x1, .f32⟩
  | .hbm, ⟨18, _⟩ => ⟨S2x1024x8x64, .f32⟩
  | .hbm, ⟨19, _⟩ => ⟨S2x1024x8x64, .f32⟩
  | .hbm, ⟨20, _⟩ => ⟨S2x8x128x1024, .f32⟩
  | .hbm, ⟨21, _⟩ => ⟨S_, .f32⟩
  | .hbm, ⟨22, _⟩ => ⟨S2x8x128x1024, .f32⟩
  | .hbm, ⟨23, _⟩ => ⟨S2x8x128x1024, .f32⟩
  | .hbm, ⟨24, _⟩ => ⟨S_, .f32⟩
  | .hbm, ⟨25, _⟩ => ⟨S2x8x128, .f32⟩
  | .hbm, ⟨26, _⟩ => ⟨S2x8x128x1, .f32⟩
  | .hbm, ⟨27, _⟩ => ⟨S2x8x128x1, .f32⟩
  | .hbm, ⟨28, _⟩ => ⟨S2x8x128x1, .f32⟩
  | .hbm, ⟨29, _⟩ => ⟨S2x8x128x1, .f32⟩
  | .hbm, ⟨30, _⟩ => ⟨S2x8x128x1024, .f32⟩
  | .hbm, ⟨31, _⟩ => ⟨S2x8x128x1024, .f32⟩
  | .hbm, ⟨32, _⟩ => ⟨S2x8x128x1024, .f32⟩
  | .hbm, ⟨33, _⟩ => ⟨S2x8x128x1, .f32⟩
  | .hbm, ⟨34, _⟩ => ⟨S_, .f32⟩
  | .hbm, ⟨35, _⟩ => ⟨S2x8x128, .f32⟩
  | .hbm, ⟨36, _⟩ => ⟨S2x8x128x1, .f32⟩
  | .hbm, ⟨37, _⟩ => ⟨S2x8x128x1, .f32⟩
  | .hbm, ⟨38, _⟩ => ⟨S2x128x8x1, .f32⟩
  | .hbm, ⟨39, _⟩ => ⟨S2x128x8x64, .f32⟩
  | .hbm, ⟨40, _⟩ => ⟨S2x128x8x64, .f32⟩
  | .hbm, ⟨41, _⟩ => ⟨S2x8x64x128, .f32⟩
  | .hbm, ⟨42, _⟩ => ⟨S2x128x8x64, .f32⟩
  | .hbm, ⟨43, _⟩ => ⟨S2x128x8x64, .f32⟩
  | .hbm, ⟨44, _⟩ => ⟨S2x1024x8x64, .f32⟩
  | .hbm, ⟨45, _⟩ => ⟨S2x1024x8x64, .f32⟩
  | .hbm, ⟨46, _⟩ => ⟨S2x8x128x1024, .f32⟩
  | .hbm, ⟨47, _⟩ => ⟨S_, .f32⟩
  | .hbm, ⟨48, _⟩ => ⟨S2x8x128x1024, .f32⟩
  | .hbm, ⟨49, _⟩ => ⟨S2x8x128x1024, .f32⟩
  | .hbm, ⟨50, _⟩ => ⟨S_, .f32⟩
  | .hbm, ⟨51, _⟩ => ⟨S2x8x128, .f32⟩
  | .hbm, ⟨52, _⟩ => ⟨S2x8x128x1, .f32⟩
  | .hbm, ⟨53, _⟩ => ⟨S2x8x128x1, .f32⟩
  | .hbm, ⟨54, _⟩ => ⟨S2x8x128x1, .f32⟩
  | .hbm, ⟨55, _⟩ => ⟨S2x8x128x1, .f32⟩
  | .hbm, ⟨56, _⟩ => ⟨S2x8x128x1024, .f32⟩
  | .hbm, ⟨57, _⟩ => ⟨S2x8x128x1024, .f32⟩
  | .hbm, ⟨58, _⟩ => ⟨S2x8x128x1024, .f32⟩
  | .hbm, ⟨59, _⟩ => ⟨S2x8x128x1, .f32⟩
  | .hbm, ⟨60, _⟩ => ⟨S_, .f32⟩
  | .hbm, ⟨61, _⟩ => ⟨S2x8x128, .f32⟩
  | .hbm, ⟨62, _⟩ => ⟨S2x8x128x1, .f32⟩
  | .hbm, ⟨63, _⟩ => ⟨S2x8x128x1, .f32⟩
  | .hbm, ⟨64, _⟩ => ⟨S2x128x8x1, .f32⟩
  | .hbm, ⟨65, _⟩ => ⟨S2x128x8x64, .f32⟩
  | .hbm, ⟨66, _⟩ => ⟨S2x128x8x64, .f32⟩
  | .hbm, ⟨67, _⟩ => ⟨S2x8x64x128, .f32⟩
  | .hbm, ⟨68, _⟩ => ⟨S2x128x8x64, .f32⟩
  | .hbm, ⟨69, _⟩ => ⟨S2x128x8x64, .f32⟩
  | .hbm, ⟨70, _⟩ => ⟨S2x128x8x1, .f32⟩
  | .hbm, ⟨71, _⟩ => ⟨S2x128x8x64, .f32⟩
  | .hbm, ⟨72, _⟩ => ⟨S2x128x8x64, .f32⟩
  | .hbm, ⟨73, _⟩ => ⟨S2x128x512, .f32⟩
  | .hbm, ⟨74, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Proof.Kernel.BodyEq.lean ====
/- The printed body is the program of `Prog`. -/
module

public import proofs.«01_k».proof.Proof.Kernel.Prog

@[expose] public section

set_option synthInstance.maxSize 4096
set_option maxRecDepth 1000000
set_option maxHeartbeats 0

noncomputable section

namespace Cert.Kernel.Att

open Cert.Kernel Cert.Kernel.Gen
open Idealize.ShloMosaic Idealize.SL.Sem

variable {F : FTy → Type} [FloatOps F]

theorem printed_eq : cc0_body (F := F) mX (Memref.isWhole_whole _) mWq (Memref.isWhole_whole _) mWo (Memref.isWhole_whole _)
    mK (Memref.isWhole_whole _) mV (Memref.isWhole_whole _) mOut (Memref.isWhole_whole _) mAO (Memref.isWhole_whole _)
    mAS (Memref.isWhole_whole _) mSO (Memref.isWhole_whole _) mRO (Memref.isWhole_whole _) mSS (Memref.isWhole_whole _)
    mRS (Memref.isWhole_whole _) cc0_scratch6 cc0_scratch7 cc0_scratch8 cc0_scratch9 cc0_scoped0 = bodyP := by
  chain_rfl

theorem body_eq : bodyAt0 (F := F) t0_0 = bodyP := by
  rw [← printed_eq]

end Cert.Kernel.Att

end
-- ==== Proof.KernelIdeal.Prog.lean ====
/- The kernel's body written once over symbolic group, step, batch and head indices, and the proof
   that the printed body is this program: the sixteen heads, the sixteen exchanges and the two
   halves of the output projection are each one definition below, taken at different indices. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

set_option synthInstance.maxSize 4096

noncomputable section

namespace Cert.KernelIdeal.Att

open Cert.KernelIdeal Cert.KernelIdeal.Gen
open Idealize.ShloMosaic Idealize.SL.Sem

variable {F : FTy → Type} [FloatOps F]

/-! ## The devices a device exchanges with -/

/-- The four masks of the exchange, as words. -/
def maskW : Fin 4 → BitVec 32 := ![1#32, 3#32, 4#32, 8#32]

/-- The device at mask `j` from `c`, as the kernel computes its number. -/
def peerN (c : Dev nD) (j : Fin 4) : Nat :=
  (Scalar.addi 0#32 (Scalar.muli (Scalar.xori (Scalar.remsi (Scalar.divsi (Dev.word c) 1#32) 16#32) (maskW j)) 1#32)).toNat

theorem peerN_lt : ∀ (c : Dev nD) (j : Fin 4), peerN c j < nD := by decide +kernel

/-- The device at mask `j` from `c`. -/
def peer (j : Fin 4) (c : Dev nD) : Dev nD := ⟨peerN c j, peerN_lt c j⟩

theorem peer_peer : ∀ (j : Fin 4) (c : Dev nD), peer j (peer j c) = c := by decide +kernel

/-- The mask group `g` exchanges over at step `k`. -/
abbrev mk (g k : Fin 4) : Fin 4 := k + g

/-! ## The buffers -/

abbrev mX : Memref sig .tc .vmem S2x128x512 .bf16 := Memref.whole cc0_stg0_0
abbrev mWq : Memref sig .tc .vmem S512x512 .bf16 := Memref.whole cc0_stg1_0
abbrev mWo : Memref sig .tc .vmem S512x512 .bf16 := Memref.whole cc0_stg2_0
abbrev mK : Memref sig .tc .vmem S2x128x8x64 .bf16 := Memref.whole cc0_stg3_0
abbrev mV : Memref sig .tc .vmem S2x128x8x64 .bf16 := Memref.whole cc0_stg4_0
abbrev mOut : Memref sig .tc .vmem S2x128x512 .f32 := Memref.whole cc0_stg5_0
abbrev mAO : Memref sig .tc .vmem S2x8x64x128 .f32 := Memref.whole cc0_scratch0
abbrev mAS : Memref sig .tc .vmem S2x8x2x128 .f32 := Memref.whole cc0_scratch1
abbrev mSO : Memref sig .tc .vmem S4x4x2x2x64x128 .bf16 := Memref.whole cc0_scratch2
abbrev mRO : Memref sig .tc .vmem S4x4x2x2x64x128 .bf16 := Memref.whole cc0_scratch3
abbrev mSS : Memref sig .tc .vmem S4x4x2x2x2x128 .f32 := Memref.whole cc0_scratch4
abbrev mRS : Memref sig .tc .vmem S4x4x2x2x2x128 .f32 := Memref.whole cc0_scratch5

theorem hSO : mSO.IsWhole := Memref.isWhole_whole _
theorem hRO : mRO.IsWhole := Memref.isWhole_whole _

abbrev semB : Sem sig := (SemArray.scalar (sig.barrier 0 rfl) : Sems sig S_).sem
abbrev semE : Sem sig := (cc0_scoped0 : Sems sig S_).sem

/-! ## The rectangles -/

theorem inbKV : ∀ (b : Fin 2) (h : Fin 8), ∀ a, (![b.val, 0, h.val, 0] : Fin 4 → Nat) a + S1x128x1x64.size a ≤ S2x128x8x64.size a := by decide +kernel
/-- Head `h` of batch `b` in the keys or the values. -/
abbrev rKV (b : Fin 2) (h : Fin 8) : Rect S2x128x8x64 := Rect.unit (s := S2x128x8x64) ![b.val, 0, h.val, 0] S1x128x1x64.size (inbKV b h)

theorem inbAO1 : ∀ (b : Fin 2) (h : Fin 8), ∀ a, (![b.val, h.val, 0, 0] : Fin 4 → Nat) a + S1x1x64x128.size a ≤ S2x8x64x128.size a := by decide +kernel
abbrev rAO1 (b : Fin 2) (h : Fin 8) : Rect S2x8x64x128 := Rect.unit (s := S2x8x64x128) ![b.val, h.val, 0, 0] S1x1x64x128.size (inbAO1 b h)

theorem inbAS1 : ∀ (b : Fin 2) (h : Fin 8) (r : Fin 2), ∀ a, (![b.val, h.val, r.val, 0] : Fin 4 → Nat) a + S1x1x1x128.size a ≤ S2x8x2x128.size a := by decide +kernel
abbrev rAS1 (b : Fin 2) (h : Fin 8) (r : Fin 2) : Rect S2x8x2x128 := Rect.unit (s := S2x8x2x128) ![b.val, h.val, r.val, 0] S1x1x1x128.size (inbAS1 b h r)

theorem inbO1 : ∀ (g k : Fin 4) (b hh : Fin 2), ∀ a, (![g.val, k.val, b.val, hh.val, 0, 0] : Fin 6 → Nat) a + S1x1x1x1x64x128.size a ≤ S4x4x2x2x64x128.size a := by decide +kernel
abbrev rO1 (g k : Fin 4) (b hh : Fin 2) : Rect S4x4x2x2x64x128 := Rect.unit (s := S4x4x2x2x64x128) ![g.val, k.val, b.val, hh.val, 0, 0] S1x1x1x1x64x128.size (inbO1 g k b hh)
theorem packedO1 : ∀ (g k : Fin 4) (b hh : Fin 2), (rO1 g k b hh).PackedRows (EltTy.packing .bf16) := by decide +kernel

theorem inbS1 : ∀ (g k : Fin 4) (b hh r : Fin 2), ∀ a, (![g.val, k.val, b.val, hh.val, r.val, 0] : Fin 6 → Nat) a + S1x1x1x1x1x128.size a ≤ S4x4x2x2x2x128.size a := by decide +kernel
abbrev rS1 (g k : Fin 4) (b hh r : Fin 2) : Rect S4x4x2x2x2x128 := Rect.unit (s := S4x4x2x2x2x128) ![g.val, k.val, b.val, hh.val, r.val, 0] S1x1x1x1x1x128.size (inbS1 g k b hh r)

theorem inbO : ∀ (g k : Fin 4), ∀ a, (![g.val, k.val, 0, 0, 0, 0] : Fin 6 → Nat) a + S1x1x2x2x64x128.size a ≤ S4x4x2x2x64x128.size a := by decide +kernel
/-- The slab of group `g`, step `k` in an exchange buffer of outputs. -/
abbrev rO (g k : Fin 4) : Rect S4x4x2x2x64x128 := Rect.unit (s := S4x4x2x2x64x128) ![g.val, k.val, 0, 0, 0, 0] S1x1x2x2x64x128.size (inbO g k)
theorem packedO : ∀ (g k : Fin 4), (rO g k).PackedRows (EltTy.packing .bf16) := by decide +kernel
theorem wordsO : ∀ (g k : Fin 4), (rO g k).WholeWords (EltTy.packing .bf16) := by decide +kernel

theorem inbS : ∀ (g k : Fin 4), ∀ a, (![g.val, k.val, 0, 0, 0, 0] : Fin 6 → Nat) a + S1x1x2x2x2x128.size a ≤ S4x4x2x2x2x128.size a := by decide +kernel
/-- The slab of group `g`, step `k` in an exchange buffer of statistics. -/
abbrev rS (g k : Fin 4) : Rect S4x4x2x2x2x128 := Rect.unit (s := S4x4x2x2x2x128) ![g.val, k.val, 0, 0, 0, 0] S1x1x2x2x2x128.size (inbS g k)

theorem inbSr : ∀ (g k : Fin 4) (r : Fin 2), ∀ a, (![g.val, k.val, 0, 0, r.val, 0] : Fin 6 → Nat) a + S1x1x2x2x1x128.size a ≤ S4x4x2x2x2x128.size a := by decide +kernel
/-- Row `r` (0: the maxima, 1: the sums) of a slab of statistics. -/
abbrev rSr (g k : Fin 4) (r : Fin 2) : Rect S4x4x2x2x2x128 := Rect.unit (s := S4x4x2x2x2x128) ![g.val, k.val, 0, 0, r.val, 0] S1x1x2x2x1x128.size (inbSr g k r)

theorem inbAOg : ∀ (g : Fin 4), ∀ a, (![0, 2 * g.val, 0, 0] : Fin 4 → Nat) a + S2x2x64x128.size a ≤ S2x8x64x128.size a := by decide +kernel
abbrev rAOg (g : Fin 4) : Rect S2x8x64x128 := Rect.unit (s := S2x8x64x128) ![0, 2 * g.val, 0, 0] S2x2x64x128.size (inbAOg g)
theorem inbASg : ∀ (g : Fin 4) (r : Fin 2), ∀ a, (![0, 2 * g.val, r.val, 0] : Fin 4 → Nat) a + S2x2x1x128.size a ≤ S2x8x2x128.size a := by decide +kernel
abbrev rASg (g : Fin 4) (r : Fin 2) : Rect S2x8x2x128 := Rect.unit (s := S2x8x2x128) ![0, 2 * g.val, r.val, 0] S2x2x1x128.size (inbASg g r)

theorem inbAOp : ∀ (p : Fin 2), ∀ a, (![0, 4 * p.val, 0, 0] : Fin 4 → Nat) a + S2x4x64x128.size a ≤ S2x8x64x128.size a := by decide +kernel
abbrev rAOp (p : Fin 2) : Rect S2x8x64x128 := Rect.unit (s := S2x8x64x128) ![0, 4 * p.val, 0, 0] S2x4x64x128.size (inbAOp p)
theorem inbASp : ∀ (p : Fin 2), ∀ a, (![0, 4 * p.val, 1, 0] : Fin 4 → Nat) a + S2x4x1x128.size a ≤ S2x8x2x128.size a := by decide +kernel
abbrev rASp (p : Fin 2) : Rect S2x8x2x128 := Rect.unit (s := S2x8x2x128) ![0, 4 * p.val, 1, 0] S2x4x1x128.size (inbASp p)
theorem inbWo : ∀ (p : Fin 2), ∀ a, (![256 * p.val, 0] : Fin 2 → Nat) a + S256x512.size a ≤ S512x512.size a := by decide +kernel
abbrev rWo (p : Fin 2) : Rect S512x512 := Rect.unit (s := S512x512) ![256 * p.val, 0] S256x512.size (inbWo p)
theorem inbOut : ∀ (b : Fin 2), ∀ a, (![b.val, 0, 0] : Fin 3 → Nat) a + S1x128x512.size a ≤ S2x128x512.size a := by decide +kernel
abbrev rOut (b : Fin 2) : Rect S2x128x512 := Rect.unit (s := S2x128x512) ![b.val, 0, 0] S1x128x512.size (inbOut b)

abbrev rX : Rect S2x128x512 := Rect.unit (s := S2x128x512) ![0, 0, 0] S2x128x512.size inb_S2x128x512_S2x128x512_0_0_0
abbrev rW : Rect S512x512 := Rect.unit (s := S512x512) ![0, 0] S512x512.size inb_S512x512_S512x512_0_0

/-! ## Slabs and semaphores of one exchange -/

theorem inbSem : ∀ (g k : Fin 4), ∀ a, (![g.val, k.val] : Fin 2 → Nat) a + S1x1.size a ≤ S4x4.size a := by decide +kernel
abbrev semAt (a : DmaSems sig S4x4) (g k : Fin 4) : DmaSem sig :=
  ((a.slice (Rect.unit (s := S4x4) ![g.val, k.val] S1x1.size (inbSem g k))).squeeze S_ squeezes_S1x1_S_).sem

abbrev slabO (m : Memref sig .tc .vmem S4x4x2x2x64x128 .bf16) (g k : Fin 4) : Memref sig .tc .vmem S2x2x64x128 .bf16 :=
  (m.slice (rO g k) (fun _ => rfl)).squeeze S2x2x64x128 squeezes_S1x1x2x2x64x128_S2x2x64x128
abbrev slabS (m : Memref sig .tc .vmem S4x4x2x2x2x128 .f32) (g k : Fin 4) : Memref sig .tc .vmem S2x2x2x128 .f32 :=
  (m.slice (rS g k) (fun _ => rfl)).squeeze S2x2x2x128 squeezes_S1x1x2x2x2x128_S2x2x2x128

theorem wxSO (g k : Fin 4) : (slabO mSO g k).view.WordExact := (hSO.wordExact_slice rfl _ (wordsO g k)).reshape _ _
theorem wxRO (g k : Fin 4) : (slabO mRO g k).view.WordExact := (hRO.wordExact_slice rfl _ (wordsO g k)).reshape _ _
theorem wxSS (g k : Fin 4) : (slabS mSS g k).view.WordExact := (View.wordExact_bits rfl).reshape _ _
theorem wxRS (g k : Fin 4) : (slabS mRS g k).view.WordExact := (View.wordExact_bits rfl).reshape _ _

/-! ## The values of one head -/

theorem slicesQ : ∀ (b : Fin 2) (h : Fin 8), S256x512.Slices ![128 * b.val, 64 * h.val] S128x64 := by decide +kernel

/-- The scaled queries. -/
abbrev qV (x : Vec F S2x128x512 .bf16) (w : Vec F S512x512 .bf16) : FVec F S256x512 .bf16 := k0_pay3 x w
/-- The scores of a head, keys by queries. -/
def hS (q : FVec F S256x512 .bf16) (b : Fin 2) (h : Fin 8) (k : Vec F S1x128x1x64 .bf16) : FVec F S128x128 .f32 :=
  matmul dot_S128x64_S128x64_S128x128_1_1_0_0_n_n none (shapeCast S128x64 k shapeCasts_S1x128x1x64_S128x64)
    (extractStridedSlice S128x64 ![128 * b.val, 64 * h.val] q (slicesQ b h)) (constant S128x128 .f32 0x00000000#32)
/-- Their maxima over the keys. -/
def hM (s : FVec F S128x128 .f32) : FVec F S1x128 .f32 :=
  shapeCast S1x128 (multiReduction .maximumf [0] S128 s 0xFF800000#32 reduces_S128x128_S128 (.inl rfl) rfl) shapeCasts_S128_S1x128
def hP (s : FVec F S128x128 .f32) : FVec F S128x128 .f32 :=
  exp (subf s (broadcastTo S128x128 (hM s) broadcasts_S1x128_S128x128))
def hL (s : FVec F S128x128 .f32) : FVec F S1x128 .f32 :=
  shapeCast S1x128 (multiReduction .add [0] S128 (hP s) 0x00000000#32 reduces_S128x128_S128 (.inl rfl) rfl) shapeCasts_S128_S1x128
def hO (s : FVec F S128x128 .f32) (v : Vec F S1x128x1x64 .bf16) : FVec F S64x128 .f32 :=
  matmul dot_S128x64_S128x128_S64x128_0_0_1_1_n_n none (shapeCast S128x64 v shapeCasts_S1x128x1x64_S128x64)
    (truncf .bf16 (hP s) bitsLt_bf16_f32) (constant S64x128 .f32 0x00000000#32)

/-! ## The program -/

abbrev PG (F : FTy → Type) (α : Type) := Prog (TpuEff nD τ sig (Elt F) Λ₀ .tc) α

def headNo (g : Fin 4) (hh : Fin 2) : Fin 8 := ⟨2 * g.val + hh.val, by omega⟩

/-- One head: its scores, maxima, sums and outputs into the accumulators and the first slabs. -/
def headP (q : FVec F S256x512 .bf16) (g : Fin 4) (b hh : Fin 2) : PG F PUnit := do
  let k ← Prog.lift (.load mK (rKV b (headNo g hh)).toLoadRect (View.loadsAt_vmem h_S1x128x1x64))
  let v ← Prog.lift (.load mV (rKV b (headNo g hh)).toLoadRect (View.loadsAt_vmem h_S1x128x1x64))
  let s := hS q b (headNo g hh) k
  let _ ← Prog.lift (.load mAO (rAO1 b (headNo g hh)).toLoadRect (View.loadsAt_vmem h_S1x1x64x128))
  Prog.lift (.store mAO (rAO1 b (headNo g hh)) (k0_pay9 (hO s v)) Finset.univ (View.stores_vmem_bits_univ h_S1x1x64x128 rfl) (.inl rfl))
  let _ ← Prog.lift (.load mAS (rAS1 b (headNo g hh) 0).toLoadRect (View.loadsAt_vmem h_S1x1x1x128))
  Prog.lift (.store mAS (rAS1 b (headNo g hh) 0) (k0_pay10 (hM s)) Finset.univ (View.stores_vmem_bits_univ h_S1x1x1x128 rfl) (.inl rfl))
  let _ ← Prog.lift (.load mAS (rAS1 b (headNo g hh) 1).toLoadRect (View.loadsAt_vmem h_S1x1x1x128))
  Prog.lift (.store mAS (rAS1 b (headNo g hh) 1) (k0_pay11 (hL s)) Finset.univ (View.stores_vmem_bits_univ h_S1x1x1x128 rfl) (.inl rfl))
  let _ ← Prog.lift (.load mSO (rO1 g 0 b hh).toLoadRect (View.loadsAt_vmem h_S1x1x1x1x64x128))
  Prog.lift (.store mSO (rO1 g 0 b hh) (k0_pay12 (hO s v)) Finset.univ
    (View.stores_vmem h_S1x1x1x1x64x128 (hSO.storeExact_slice rfl _ (packedO1 g 0 b hh)) (fun _ => rfl)) (.inl rfl))
  let _ ← Prog.lift (.load mSS (rS1 g 0 b hh 0).toLoadRect (View.loadsAt_vmem h_S1x1x1x1x1x128))
  Prog.lift (.store mSS (rS1 g 0 b hh 0) (k0_pay13 (hM s)) Finset.univ (View.stores_vmem_bits_univ h_S1x1x1x1x1x128 rfl) (.inl rfl))
  let _ ← Prog.lift (.load mSS (rS1 g 0 b hh 1).toLoadRect (View.loadsAt_vmem h_S1x1x1x1x1x128))
  Prog.lift (.store mSS (rS1 g 0 b hh 1) (k0_pay14 (hL s)) Finset.univ (View.stores_vmem_bits_univ h_S1x1x1x1x1x128 rfl) (.inl rfl))

def groupP (q : FVec F S256x512 .bf16) (g : Fin 4) : PG F PUnit := do
  headP q g 0 0
  headP q g 0 1
  headP q g 1 0
  headP q g 1 1

/-- Start the exchange of group `g`, step `k`. -/
def startP (c : Dev nD) (g k : Fin 4) : PG F PUnit := do
  Prog.lift (.enqueueDma (slabO mSO g k) (.remote (Dev.tc (peer (mk g k) c)) (slabO mRO g k) (.dma (semAt cc0_scratch6 g k)))
    (.dma (semAt cc0_scratch7 g k)) (wxSO g k) (wxRO g k) ⟨⟨rfl, Or.inl rfl⟩, trivial⟩)
  Prog.lift (.enqueueDma (slabS mSS g k) (.remote (Dev.tc (peer (mk g k) c)) (slabS mRS g k) (.dma (semAt cc0_scratch8 g k)))
    (.dma (semAt cc0_scratch9 g k)) (wxSS g k) (wxRS g k) ⟨⟨rfl, Or.inl rfl⟩, trivial⟩)

/-- Wait for both halves of both transfers of group `g`, step `k`. -/
def waitP (g k : Fin 4) : PG F PUnit := do
  Prog.lift (.waitDma2 (semAt cc0_scratch6 g k) (slabO mRO g k) (slabO mSO g k) (wxRO g k) (wxSO g k))
  Prog.lift (.waitDma2 (semAt cc0_scratch7 g k) (slabO mSO g k) (slabO mRO g k) (wxSO g k) (wxRO g k))
  Prog.lift (.waitDma2 (semAt cc0_scratch8 g k) (slabS mRS g k) (slabS mSS g k) (wxRS g k) (wxSS g k))
  Prog.lift (.waitDma2 (semAt cc0_scratch9 g k) (slabS mSS g k) (slabS mRS g k) (wxSS g k) (wxRS g k))

/-- The six loads a merge makes, and what the rest of it does with them. -/
def mergeP {α : Type} (g k : Fin 4) (rest : Vec F S1x1x2x2x64x128 .bf16 → Vec F S1x1x2x2x1x128 .f32 → Vec F S1x1x2x2x1x128 .f32 →
    Vec F S2x2x1x128 .f32 → Vec F S2x2x1x128 .f32 → Vec F S2x2x64x128 .f32 → PG F α) : PG F α := do
  let ro ← Prog.lift (.load mRO (rO g k).toLoadRect (View.loadsAt_vmem h_S1x1x2x2x64x128))
  let rm ← Prog.lift (.load mRS (rSr g k 0).toLoadRect (View.loadsAt_vmem h_S1x1x2x2x1x128))
  let rl ← Prog.lift (.load mRS (rSr g k 1).toLoadRect (View.loadsAt_vmem h_S1x1x2x2x1x128))
  let am ← Prog.lift (.load mAS (rASg g 0).toLoadRect (View.loadsAt_vmem h_S2x2x1x128))
  let al ← Prog.lift (.load mAS (rASg g 1).toLoadRect (View.loadsAt_vmem h_S2x2x1x128))
  let ao ← Prog.lift (.load mAO (rAOg g).toLoadRect (View.loadsAt_vmem h_S2x2x64x128))
  rest ro rm rl am al ao

/-- The merged state into the accumulators. -/
def accP (g : Fin 4) (ro : Vec F S1x1x2x2x64x128 .bf16) (rm rl : Vec F S1x1x2x2x1x128 .f32) (am al : Vec F S2x2x1x128 .f32)
    (ao : Vec F S2x2x64x128 .f32) : PG F PUnit := do
  let _ ← Prog.lift (.load mAO (rAOg g).toLoadRect (View.loadsAt_vmem h_S2x2x64x128))
  Prog.lift (.store mAO (rAOg g) (k0_pay197 ro rm am ao) Finset.univ (View.stores_vmem_bits_univ h_S2x2x64x128 rfl) (.inl rfl))
  let _ ← Prog.lift (.load mAS (rASg g 0).toLoadRect (View.loadsAt_vmem h_S2x2x1x128))
  Prog.lift (.store mAS (rASg g 0) (k0_pay198 (k0_pay192 rm am)) Finset.univ (View.stores_vmem_bits_univ h_S2x2x1x128 rfl) (.inl rfl))
  let _ ← Prog.lift (.load mAS (rASg g 1).toLoadRect (View.loadsAt_vmem h_S2x2x1x128))
  Prog.lift (.store mAS (rASg g 1) (k0_pay199 (k0_pay196 rm rl am al)) Finset.univ (View.stores_vmem_bits_univ h_S2x2x1x128 rfl) (.inl rfl))

/-- The merged state into the slabs of the next step `k'`. -/
def nextP (g k' : Fin 4) (ro : Vec F S1x1x2x2x64x128 .bf16) (rm rl : Vec F S1x1x2x2x1x128 .f32) (am al : Vec F S2x2x1x128 .f32)
    (ao : Vec F S2x2x64x128 .f32) : PG F PUnit := do
  let _ ← Prog.lift (.load mSO (rO g k').toLoadRect (View.loadsAt_vmem h_S1x1x2x2x64x128))
  Prog.lift (.store mSO (rO g k') (k0_pay200 (k0_pay195 ro rm am ao)) Finset.univ
    (View.stores_vmem h_S1x1x2x2x64x128 (hSO.storeExact_slice rfl _ (packedO g k')) (fun _ => rfl)) (.inl rfl))
  let _ ← Prog.lift (.load mSS (rSr g k' 0).toLoadRect (View.loadsAt_vmem h_S1x1x2x2x1x128))
  Prog.lift (.store mSS (rSr g k' 0) (k0_pay201 (k0_pay192 rm am)) Finset.univ (View.stores_vmem_bits_univ h_S1x1x2x2x1x128 rfl) (.inl rfl))
  let _ ← Prog.lift (.load mSS (rSr g k' 1).toLoadRect (View.loadsAt_vmem h_S1x1x2x2x1x128))
  Prog.lift (.store mSS (rSr g k' 1) (k0_pay202 (k0_pay196 rm rl am al)) Finset.univ (View.stores_vmem_bits_univ h_S1x1x2x2x1x128 rfl) (.inl rfl))

/-- Step `k` of group `g` (not its last): wait, merge, start step `k'`. -/
def stepP (c : Dev nD) (g k k' : Fin 4) : PG F PUnit := do
  waitP g k
  mergeP g k fun ro rm rl am al ao => do
    accP g ro rm rl am al ao
    nextP g k' ro rm rl am al ao
  startP c g k'

/-- The last step of group `g`: wait and merge. -/
def lastP (g : Fin 4) : PG F PUnit := do
  waitP g 3
  mergeP g 3 fun ro rm rl am al ao => accP g ro rm rl am al ao

/-- What half `p` of the heads gives the projection: outputs, sums, weights. -/
def projP {α : Type} (p : Fin 2) (rest : Vec F S2x4x64x128 .f32 → Vec F S2x4x1x128 .f32 → Vec F S256x512 .bf16 → PG F α) : PG F α := do
  let o ← Prog.lift (.load mAO (rAOp p).toLoadRect (View.loadsAt_vmem h_S2x4x64x128))
  let l ← Prog.lift (.load mAS (rASp p).toLoadRect (View.loadsAt_vmem h_S2x4x1x128))
  let w ← Prog.lift (.load mWo (rWo p).toLoadRect (View.loadsAt_vmem h_S256x512))
  rest o l w

def signalP (c : Dev nD) (s : Sem sig) : PG F PUnit := do
  semSignalWord (peer 0 c) s 1#32
  semSignalWord (peer 1 c) s 1#32
  semSignalWord (peer 2 c) s 1#32
  semSignalWord (peer 3 c) s 1#32

/-- The two blocks of the result out. -/
def outP (o0 o1 : Vec F S2x4x64x128 .f32) (l0 l1 : Vec F S2x4x1x128 .f32) (w0 w1 : Vec F S256x512 .bf16) : PG F PUnit := do
  let _ ← Prog.lift (.load mOut (rOut 0).toLoadRect (View.loadsAt_vmem h_S1x128x512))
  Prog.lift (.store mOut (rOut 0) (k0_pay1 (k0_pay375 (k0_pay372 o0 l0) w0) (k0_pay395 o1 l1 w1)) Finset.univ (View.stores_vmem_bits_univ h_S1x128x512 rfl) (.inl rfl))
  let _ ← Prog.lift (.load mOut (rOut 1).toLoadRect (View.loadsAt_vmem h_S1x128x512))
  Prog.lift (.store mOut (rOut 1) (k0_pay2 (k0_pay376 (k0_pay372 o0 l0) w0) (k0_pay394 w1) (k0_pay396 o1 l1)) Finset.univ (View.stores_vmem_bits_univ h_S1x128x512 rfl) (.inl rfl))

/-- The heads, each group's first exchange started when its heads are done. -/
def headsP (c : Dev nD) (q : FVec F S256x512 .bf16) : PG F PUnit := do
  groupP q 0
  semWaitWord semB 4#32
  startP c 0 0
  groupP q 1
  startP c 1 0
  groupP q 2
  startP c 2 0
  groupP q 3
  startP c 3 0

/-- Step `k` of every group in turn. -/
def roundP (c : Dev nD) (k k' : Fin 4) : PG F PUnit := do
  stepP c 0 k k'
  stepP c 1 k k'
  stepP c 2 k k'
  stepP c 3 k k'

/-- The last merges, the projection and the result. -/
def tailP (c : Dev nD) : PG F PUnit := do
  lastP 0
  lastP 1
  projP 0 fun o0 l0 w0 => do
    lastP 2
    lastP 3
    signalP c semE
    projP 1 fun o1 l1 w1 => do
      outP o0 o1 l0 l1 w0 w1
      semWaitWord semE 4#32

/-- The body. -/
def bodyP : PG F PUnit := do
  let c ← Prog.lift .deviceId
  signalP c semB
  let x ← Prog.lift (.load mX rX.toLoadRect (View.loadsAt_vmem h_S2x128x512))
  let w ← Prog.lift (.load mWq rW.toLoadRect (View.loadsAt_vmem h_S512x512))
  headsP c (qV x w)
  roundP c 0 1
  roundP c 1 2
  roundP c 2 3
  tailP c

end Cert.KernelIdeal.Att

end
-- ==== Proof.KernelIdeal.Spec.lean ====
/- What the buffers hold. The state of group `g` on device `c` after `n` merges is given by recursion
   on `n`: before any merge the heads' own outputs, maxima and sums; after one more, the merge of the
   peer's state and its own. The exchange buffers and the accumulators hold these states laid out by
   group, step, batch and head. -/
module

public import proofs.«01_k».proof.Proof.KernelIdeal.Prog
public import Idealize.ShloMosaic.Lib.ValueIdx
public import Idealize.ShloMosaic.Lib.ValueIdxRank6
public import Idealize.ShloMosaic.Lib.Pipeline.Value

@[expose] public section

set_option synthInstance.maxSize 4096

noncomputable section

namespace Cert.KernelIdeal.Att

open Cert.KernelIdeal Cert.KernelIdeal.Gen
open Idealize.ShloMosaic Idealize.SL.Sem Idealize.ShloMosaic.ValueIdx

variable {F : FTy → Type} [FloatOps F]

/-- The inputs of the sixteen devices. -/
structure Ins (F : FTy → Type) where
  x : Dev nD → Vec F S2x128x512 .bf16
  wq : Dev nD → Vec F S512x512 .bf16
  wo : Dev nD → Vec F S512x512 .bf16
  k : Dev nD → Vec F S2x128x8x64 .bf16
  v : Dev nD → Vec F S2x128x8x64 .bf16

/-- One group's partial attention: unnormalised outputs, maxima, sums. -/
structure St (F : FTy → Type) where
  o : Vec F S2x2x64x128 .f32
  m : Vec F S2x2x1x128 .f32
  l : Vec F S2x2x1x128 .f32

variable (I : Ins F)

/-- Head `h` of batch `b` of a device's keys (or values). -/
def headOf (X : Vec F S2x128x8x64 .bf16) (b : Fin 2) (h : Fin 8) : Vec F S1x128x1x64 .bf16 :=
  fun j => X ((rKV b h).toLoadRect.idx j)

/-- The scores of a head of device `c`. -/
def scV (c : Dev nD) (b : Fin 2) (h : Fin 8) : FVec F S128x128 .f32 :=
  hS (qV (I.x c) (I.wq c)) b h (headOf (I.k c) b h)

/-- The heads of group `g` on device `c` before any merge. -/
def st0 (g : Fin 4) (c : Dev nD) : St F where
  o := fun j => hO (scV I c (j 0) (headNo g (j 1))) (headOf (I.v c) (j 0) (headNo g (j 1))) (ix2 (j 2) (j 3))
  m := fun j => hM (scV I c (j 0) (headNo g (j 1))) (ix2 (0 : Fin 1) (j 3))
  l := fun j => hL (scV I c (j 0) (headNo g (j 1))) (ix2 (0 : Fin 1) (j 3))

/-- The state received, as it is laid out in an exchange buffer, merged into a device's own. -/
def merge (a b : St F) : St F where
  o := k0_pay195 (k0_pay200 a.o) (k0_pay201 a.m) b.m b.o
  m := k0_pay192 (k0_pay201 a.m) b.m
  l := k0_pay196 (k0_pay201 a.m) (k0_pay202 a.l) b.m b.l

/-- The state of group `g` on device `c` after `n` merges. -/
def st : ℕ → Fin 4 → Dev nD → St F
  | 0, g, c => st0 I g c
  | n + 1, g, c => merge (st n g (peer (mk g (Fin.ofNat 4 n)) c)) (st n g c)

theorem st_succ (g k : Fin 4) (c : Dev nD) :
    st I (k.val + 1) g c = merge (st I k.val g (peer (mk g k) c)) (st I k.val g c) := by
  show merge (st I k.val g (peer (mk g (Fin.ofNat 4 k.val)) c)) _ = _
  rw [show Fin.ofNat 4 k.val = k from Fin.ext (Nat.mod_eq_of_lt k.isLt)]

/-- The group of a head and its place there. -/
def grp (h : Fin 8) : Fin 4 := ⟨h.val / 2, by omega⟩
def par (h : Fin 8) : Fin 2 := ⟨h.val % 2, by omega⟩

theorem grp_headNo (g : Fin 4) (hh : Fin 2) : grp (headNo g hh) = g := Fin.ext (by simp [grp, headNo]; omega)
theorem par_headNo (g : Fin 4) (hh : Fin 2) : par (headNo g hh) = hh := Fin.ext (by simp [par, headNo]; omega)

/-- The exchange buffer of outputs. -/
def cSO (c : Dev nD) : Vec F S4x4x2x2x64x128 .bf16 := fun i =>
  k0_pay200 (st I (i 1).val (i 0) c).o (ix6 (0 : Fin 1) (0 : Fin 1) (i 2) (i 3) (i 4) (i 5))

/-- The exchange buffer of statistics: row 0 the maxima, row 1 the sums. -/
def cSS (c : Dev nD) : Vec F S4x4x2x2x2x128 .f32 := fun i =>
  if (i 4).val = 0 then k0_pay201 (st I (i 1).val (i 0) c).m (ix6 (0 : Fin 1) (0 : Fin 1) (i 2) (i 3) (0 : Fin 1) (i 5))
  else k0_pay202 (st I (i 1).val (i 0) c).l (ix6 (0 : Fin 1) (0 : Fin 1) (i 2) (i 3) (0 : Fin 1) (i 5))

/-- The accumulator of outputs when group `g` has merged `n g` times. -/
def cAO (n : Fin 4 → ℕ) (c : Dev nD) : Vec F S2x8x64x128 .f32 := fun i =>
  (st I (n (grp (i 1))) (grp (i 1)) c).o (ix4 (i 0) (par (i 1)) (i 2) (i 3))

/-- The accumulator of statistics. -/
def cAS (n : Fin 4 → ℕ) (c : Dev nD) : Vec F S2x8x2x128 .f32 := fun i =>
  if (i 2).val = 0 then (st I (n (grp (i 1))) (grp (i 1)) c).m (ix4 (i 0) (par (i 1)) (0 : Fin 1) (i 3))
  else (st I (n (grp (i 1))) (grp (i 1)) c).l (ix4 (i 0) (par (i 1)) (0 : Fin 1) (i 3))

/-- What half `p` of the projection reads. -/
def finO (c : Dev nD) (p : Fin 2) : Vec F S2x4x64x128 .f32 := fun j => cAO I (fun _ => 4) c ((rAOp p).toLoadRect.idx j)
def finL (c : Dev nD) (p : Fin 2) : Vec F S2x4x1x128 .f32 := fun j => cAS I (fun _ => 4) c ((rASp p).toLoadRect.idx j)
def woV (c : Dev nD) (p : Fin 2) : Vec F S256x512 .bf16 := fun j => I.wo c ((rWo p).toLoadRect.idx j)

/-- The two batches of the result. -/
def outB0 (c : Dev nD) : Vec F S1x128x512 .f32 :=
  k0_pay1 (k0_pay375 (k0_pay372 (finO I c 0) (finL I c 0)) (woV I c 0)) (k0_pay395 (finO I c 1) (finL I c 1) (woV I c 1))
def outB1 (c : Dev nD) : Vec F S1x128x512 .f32 :=
  k0_pay2 (k0_pay376 (k0_pay372 (finO I c 0) (finL I c 0)) (woV I c 0)) (k0_pay394 (woV I c 1)) (k0_pay396 (finO I c 1) (finL I c 1))

/-- The result. -/
def cOut (c : Dev nD) : Vec F S2x128x512 .f32 := fun i =>
  if (i 0).val = 0 then outB0 I c (ix3 (0 : Fin 1) (i 1) (i 2)) else outB1 I c (ix3 (0 : Fin 1) (i 1) (i 2))

/-! ## The payloads at an index -/

theorem pay9_at (o : FVec F S64x128 .f32) (j : S1x1x64x128.Idx) : k0_pay9 o j = o (ix2 (j 2) (j 3)) :=
  shapeCast_apply _ _ _ _ (by
    have h0 : (j 0).val = 0 := by have := (j 0).isLt; simp at this; omega
    have h1 : (j 1).val = 0 := by have := (j 1).isLt; simp at this; omega
    simp [Shape.rowMajor_val_four, Shape.rowMajor_val_two, h0, h1])

theorem pay10_at (o : FVec F S1x128 .f32) (j : S1x1x1x128.Idx) : k0_pay10 o j = o (ix2 (0 : Fin 1) (j 3)) :=
  shapeCast_apply _ _ _ _ (by
    have h0 : (j 0).val = 0 := by have := (j 0).isLt; simp at this; omega
    have h1 : (j 1).val = 0 := by have := (j 1).isLt; simp at this; omega
    have h2 : (j 2).val = 0 := by have := (j 2).isLt; simp at this; omega
    simp [Shape.rowMajor_val_four, Shape.rowMajor_val_two, h0, h1, h2])

theorem pay11_at (o : FVec F S1x128 .f32) (j : S1x1x1x128.Idx) : k0_pay11 o j = o (ix2 (0 : Fin 1) (j 3)) := pay10_at o j

theorem pay12_at (o : FVec F S64x128 .f32) (j : S1x1x1x1x64x128.Idx) :
    k0_pay12 o j = truncf .bf16 o bitsLt_bf16_f32 (ix2 (j 4) (j 5)) :=
  shapeCast_apply (truncf .bf16 o bitsLt_bf16_f32) shapeCasts_S64x128_S1x1x1x1x64x128 j (ix2 (j 4) (j 5)) (by
    have h0 : (j 0).val = 0 := by have := (j 0).isLt; simp at this; omega
    have h1 : (j 1).val = 0 := by have := (j 1).isLt; simp at this; omega
    have h2 : (j 2).val = 0 := by have := (j 2).isLt; simp at this; omega
    have h3 : (j 3).val = 0 := by have := (j 3).isLt; simp at this; omega
    simp [Shape.rowMajor_val_six, Shape.rowMajor_val_two, h0, h1, h2, h3])

theorem pay13_at (o : FVec F S1x128 .f32) (j : S1x1x1x1x1x128.Idx) : k0_pay13 o j = o (ix2 (0 : Fin 1) (j 5)) :=
  shapeCast_apply _ _ _ _ (by
    have h0 : (j 0).val = 0 := by have := (j 0).isLt; simp at this; omega
    have h1 : (j 1).val = 0 := by have := (j 1).isLt; simp at this; omega
    have h2 : (j 2).val = 0 := by have := (j 2).isLt; simp at this; omega
    have h3 : (j 3).val = 0 := by have := (j 3).isLt; simp at this; omega
    have h4 : (j 4).val = 0 := by have := (j 4).isLt; simp at this; omega
    simp [Shape.rowMajor_val_six, Shape.rowMajor_val_two, h0, h1, h2, h3, h4])

theorem pay14_at (o : FVec F S1x128 .f32) (j : S1x1x1x1x1x128.Idx) : k0_pay14 o j = o (ix2 (0 : Fin 1) (j 5)) := pay13_at o j

theorem pay200_at (o : FVec F S2x2x64x128 .f32) (j : S1x1x2x2x64x128.Idx) :
    k0_pay200 o j = truncf .bf16 o bitsLt_bf16_f32 (ix4 (j 2) (j 3) (j 4) (j 5)) :=
  shapeCast_apply (truncf .bf16 o bitsLt_bf16_f32) shapeCasts_S2x2x64x128_S1x1x2x2x64x128 j (ix4 (j 2) (j 3) (j 4) (j 5)) (by
    have h0 : (j 0).val = 0 := by have := (j 0).isLt; simp at this; omega
    have h1 : (j 1).val = 0 := by have := (j 1).isLt; simp at this; omega
    simp [Shape.rowMajor_val_six, Shape.rowMajor_val_four, h0, h1])

theorem pay201_at (o : FVec F S2x2x1x128 .f32) (j : S1x1x2x2x1x128.Idx) :
    k0_pay201 o j = o (ix4 (j 2) (j 3) (0 : Fin 1) (j 5)) :=
  shapeCast_apply _ _ _ _ (by
    have h0 : (j 0).val = 0 := by have := (j 0).isLt; simp at this; omega
    have h1 : (j 1).val = 0 := by have := (j 1).isLt; simp at this; omega
    have h4 : (j 4).val = 0 := by have := (j 4).isLt; simp at this; omega
    simp [Shape.rowMajor_val_six, Shape.rowMajor_val_four, h0, h1, h4])

theorem pay202_at (o : FVec F S2x2x1x128 .f32) (j : S1x1x2x2x1x128.Idx) :
    k0_pay202 o j = o (ix4 (j 2) (j 3) (0 : Fin 1) (j 5)) := pay201_at o j

theorem pay197_eq (ro : Vec F S1x1x2x2x64x128 .bf16) (rm : Vec F S1x1x2x2x1x128 .f32) (am : Vec F S2x2x1x128 .f32)
    (ao : Vec F S2x2x64x128 .f32) : k0_pay197 ro rm am ao = k0_pay195 ro rm am ao := funext fun j => shapeCast_apply (k0_pay195 ro rm am ao) shapeCasts_S2x2x64x128_S2x2x64x128 j j rfl
theorem pay198_eq (m : FVec F S2x2x1x128 .f32) : k0_pay198 m = m := funext fun j => shapeCast_apply _ _ _ _ rfl
theorem pay199_eq (m : FVec F S2x2x1x128 .f32) : k0_pay199 m = m := funext fun j => shapeCast_apply _ _ _ _ rfl

end Cert.KernelIdeal.Att

end
-- ==== Proof.KernelIdeal.Held.lean ====
/- Elements of a buffer held at contents known on a part of it, and the rules for the loads and stores
   of the kernel over them. -/
module

public import proofs.«01_k».proof.Proof.KernelIdeal.Spec
public import Idealize.ShloMosaic.Lib.Pipeline.Launch
public import Idealize.ShloMosaic.Lib.Pipeline.Kit
public import Idealize.ShloMosaic.Lib.Tactic

@[expose] public section

set_option synthInstance.maxSize 4096

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the exchange's, whose duties are the four masks -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a program on device `c`. -/
abbrev WP {α : Type} (c : Dev nD) (p : PG F α) (Q : α → sProp 𝕄) : sProp 𝕄 :=
  wp frame (wpE (defs₀ (F := F)) 𝒱₀ (c : Thread nD τ) none) Set.univ p Q

/-- The elements `S` of buffer `b` of device `c`, holding `f`. -/
abbrev pB (c : Dev nD) (b : Ref sig .tc) (S : Finset b.ty.Idx) (f : b.ty.Contents (Elt F)) : sProp 𝕄 :=
  ((c : Thread nD τ).loc b) ↦[S]{fullShare} f

/-- The same at some contents that are `spec` wherever `A` holds. -/
def Held (c : Dev nD) (b : Ref sig .tc) (S : Finset b.ty.Idx) (A : b.ty.Idx → Prop) (spec : b.ty.Contents (Elt F)) : sProp 𝕄 :=
  iprop(∃ f : b.ty.Contents (Elt F), ⌜∀ i, A i → f i = spec i⌝ ∗ pB c b S f)

omit [FloatOps F] in
theorem held_intro (c : Dev nD) (b : Ref sig .tc) (S : Finset b.ty.Idx) (f : b.ty.Contents (Elt F)) : pB c b S f ⊢ Held c b S (fun _ => True) f := by
  unfold Held; iintro H; iexists f; isplitr; · ipureintro; intro _ _; rfl
  iexact H

omit [FloatOps F] in
theorem held_none (c : Dev nD) (b : Ref sig .tc) (S : Finset b.ty.Idx) (f spec : b.ty.Contents (Elt F)) : pB c b S f ⊢ Held c b S (fun _ => False) spec := by
  unfold Held; iintro H; iexists f; isplitr; · ipureintro; intro _ h; exact h.elim
  iexact H

omit [FloatOps F] in
theorem held_mono {c : Dev nD} {b : Ref sig .tc} {S : Finset b.ty.Idx} {A A' : b.ty.Idx → Prop} {spec spec' : b.ty.Contents (Elt F)}
    (h : ∀ i, A' i → A i ∧ spec i = spec' i) : Held c b S A spec ⊢ Held c b S A' spec' := by
  unfold Held
  iintro ⟨%f, %hf, H⟩; iexists f
  isplitr; · ipureintro; intro i hi; rw [hf i (h i hi).1, (h i hi).2]
  iexact H

omit [FloatOps F] in
theorem held_pts {c : Dev nD} {b : Ref sig .tc} {S : Finset b.ty.Idx} {A : b.ty.Idx → Prop} {spec : b.ty.Contents (Elt F)}
    (h : ∀ i ∈ S, A i) : Held c b S A spec ⊢ pB c b S spec := by
  unfold Held
  iintro ⟨%f, %hf, H⟩
  iapply (Entails.of_eq (pointsTo_congr fun i hi => hf i (h i hi))) $$ H

omit [FloatOps F] in
theorem held_some {c : Dev nD} {b : Ref sig .tc} {S : Finset b.ty.Idx} {A : b.ty.Idx → Prop} {spec : b.ty.Contents (Elt F)} :
    Held c b S A spec ⊢ ∃ f, pB c b S f := by
  unfold Held
  iintro ⟨%f, -, H⟩; iexists f; iexact H

theorem read_whole_at (b : Ref sig .tc) (r : Rect b.ty.shape) (f : b.ty.Contents (Elt F)) (x : r.shape.Idx) :
    (Memref.whole b : Memref sig .tc _ _ _).view.readAt (Elt F) r.toLoadRect f x = f (r.emb x) := rfl

omit [FloatOps F] in
theorem access_set (b : Ref sig .tc) (r : Rect b.ty.shape) :
    ((Memref.whole b : Memref sig .tc _ _ _).access r).setOn Finset.univ = r.set := by
  rw [View.setOn_univ]; exact View.set_slice_whole b r

omit [FloatOps F] in
theorem load_set (b : Ref sig .tc) (r : Rect b.ty.shape) :
    (Memref.whole b : Memref sig .tc _ _ _).view.setOn r.toLoadRect.set = r.set := Finset.map_refl

/-- A finished program. -/
theorem wp_done {α : Type} {c : Dev nD} {a : α} {Q : α → sProp 𝕄} : Q a ⊢ WP c (.ret a) Q := by
  show Q a ⊢ iprop(|={Set.univ}[frame]=> Q a)
  exact fupd_intro

private theorem wp_ld_aux {c : Dev nD} {cs : CoreSpace} {n : Fin (sig.nNear .tc (.core cs))} {hn : sig.names .tc (.core cs) n = true} {r : Rect (Ref.mk (.core cs) n hn : Ref sig .tc).ty.shape} {hl : (Memref.whole (⟨.core cs, n, hn⟩ : Ref sig .tc)).view.LoadsAt r.toLoadRect}
    {S : Finset (⟨.core cs, n, hn⟩ : Ref sig .tc).ty.Idx} {A : (⟨.core cs, n, hn⟩ : Ref sig .tc).ty.Idx → Prop} {spec : (⟨.core cs, n, hn⟩ : Ref sig .tc).ty.Contents (Elt F)}
    (v : r.shape.Idx → Elt F (⟨.core cs, n, hn⟩ : Ref sig .tc).ty.elt) {Q : (r.shape.Idx → Elt F (⟨.core cs, n, hn⟩ : Ref sig .tc).ty.elt) → sProp 𝕄} (hS : r.set ⊆ S)
    (hA : ∀ x, A (r.emb x)) (hv : ∀ x, spec (r.emb x) = v x) :
    Held c (⟨.core cs, n, hn⟩ : Ref sig .tc) S A spec ⊢ (Held c (⟨.core cs, n, hn⟩ : Ref sig .tc) S A spec -∗ Q v) -∗ WP c (Prog.lift (.load (Memref.whole (⟨.core cs, n, hn⟩ : Ref sig .tc)) r.toLoadRect hl)) Q := by
  unfold Held
  iintro ⟨%f, %hf, H⟩ Hk
  have hr : (Memref.whole (⟨.core cs, n, hn⟩ : Ref sig .tc)).view.readAt (Elt F) r.toLoadRect f = v :=
    funext fun x => (hf _ (hA x)).trans (hv x)
  iapply (wp_load 𝒱₀ (c : Thread nD τ) none Set.univ (m := Memref.whole (⟨.core cs, n, hn⟩ : Ref sig .tc)) (r := r.toLoadRect) (S := S) (q := fullShare) (f := f)
    (by rw [load_set]; exact hS)) $$ H
  iintro H
  rw [hr]
  iapply wp_done
  iapply Hk
  iexists f; isplitr; · ipureintro; exact hf
  iexact H

private theorem wp_ldx_aux {c : Dev nD} {cs : CoreSpace} {n : Fin (sig.nNear .tc (.core cs))} {hn : sig.names .tc (.core cs) n = true} {r : Rect (Ref.mk (.core cs) n hn : Ref sig .tc).ty.shape} {hl : (Memref.whole (⟨.core cs, n, hn⟩ : Ref sig .tc)).view.LoadsAt r.toLoadRect}
    {S : Finset (⟨.core cs, n, hn⟩ : Ref sig .tc).ty.Idx} {A : (⟨.core cs, n, hn⟩ : Ref sig .tc).ty.Idx → Prop} {spec : (⟨.core cs, n, hn⟩ : Ref sig .tc).ty.Contents (Elt F)}
    {Q : sProp 𝕄} (hS : r.set ⊆ S) :
    Held c (⟨.core cs, n, hn⟩ : Ref sig .tc) S A spec ⊢ (Held c (⟨.core cs, n, hn⟩ : Ref sig .tc) S A spec -∗ Q) -∗ WP c (Prog.lift (.load (Memref.whole (⟨.core cs, n, hn⟩ : Ref sig .tc)) r.toLoadRect hl)) (fun _ => Q) := by
  unfold Held
  iintro ⟨%f, %hf, H⟩ Hk
  iapply (wp_load 𝒱₀ (c : Thread nD τ) none Set.univ (m := Memref.whole (⟨.core cs, n, hn⟩ : Ref sig .tc)) (r := r.toLoadRect) (S := S) (q := fullShare) (f := f)
    (by rw [load_set]; exact hS)) $$ H
  iintro H
  iapply wp_done
  iapply Hk
  iexists f; isplitr; · ipureintro; exact hf
  iexact H

private theorem wp_st_aux {c : Dev nD} {cs : CoreSpace} {n : Fin (sig.nNear .tc (.core cs))} {hn : sig.names .tc (.core cs) n = true} {r : Rect (Ref.mk (.core cs) n hn : Ref sig .tc).ty.shape} {w : r.shape.Idx → Elt F (⟨.core cs, n, hn⟩ : Ref sig .tc).ty.elt}
    {hx : ((Memref.whole (⟨.core cs, n, hn⟩ : Ref sig .tc)).access r).Stores Finset.univ} {hm : (Finset.univ : Finset r.shape.Idx) = Finset.univ ∨ ∀ a, r.stride a = 1}
    {S : Finset (⟨.core cs, n, hn⟩ : Ref sig .tc).ty.Idx} {A A' : (⟨.core cs, n, hn⟩ : Ref sig .tc).ty.Idx → Prop} {spec spec' : (⟨.core cs, n, hn⟩ : Ref sig .tc).ty.Contents (Elt F)}
    {Q : PUnit → sProp 𝕄} (hS : r.set ⊆ S)
    (hw : ∀ x, w x = spec' (r.emb x)) (hA : ∀ i, A' i → i ∉ r.set → A i ∧ spec i = spec' i) :
    Held c (⟨.core cs, n, hn⟩ : Ref sig .tc) S A spec ⊢ (Held c (⟨.core cs, n, hn⟩ : Ref sig .tc) S A' spec' -∗ Q ⟨⟩) -∗ WP c (Prog.lift (.store (Memref.whole (⟨.core cs, n, hn⟩ : Ref sig .tc)) r w Finset.univ hx hm)) Q := by
  unfold Held
  iintro ⟨%f, %hf, H⟩ Hk
  iapply (wp_store 𝒱₀ (c : Thread nD τ) none Set.univ (m := Memref.whole (⟨.core cs, n, hn⟩ : Ref sig .tc)) (r := r) (S := S) (f := f)
    (by rw [access_set]; exact hS)) $$ H
  iintro H
  iapply wp_done
  iapply Hk
  iexists (((Memref.whole (⟨.core cs, n, hn⟩ : Ref sig .tc)).access r).write (Elt F) f w Finset.univ)
  isplitr
  · ipureintro
    intro i hi
    by_cases h : i ∈ r.set
    · obtain ⟨x, rfl⟩ := r.toLoadRect.exists_idx_of_mem h
      exact (View.write_emb_of_mem (v := (Memref.whole (⟨.core cs, n, hn⟩ : Ref sig .tc)).access r) f w (Finset.mem_univ x)).trans (hw x)
    · refine (View.write_of_not_mem (v := (Memref.whole (⟨.core cs, n, hn⟩ : Ref sig .tc)).access r) f w Finset.univ (by rw [access_set]; exact h)).trans ?_
      rw [hf i (hA i hi h).1, (hA i hi h).2]
  iexact H

/-- A load whose elements are known. -/
theorem wp_ld {c : Dev nD} (b : Ref sig .tc) {cs : CoreSpace} (hb : b.space = .core cs) {m : Memref sig .tc (.core cs) b.ty.shape b.ty.elt}
    (hm : HEq m (Memref.whole b)) {r : Rect b.ty.shape} {hl : m.view.LoadsAt r.toLoadRect}
    {S : Finset b.ty.Idx} {A : b.ty.Idx → Prop} {spec : b.ty.Contents (Elt F)}
    (v : r.shape.Idx → Elt F b.ty.elt) {Q : (r.shape.Idx → Elt F b.ty.elt) → sProp 𝕄} (hS : r.set ⊆ S)
    (hA : ∀ x, A (r.emb x)) (hv : ∀ x, spec (r.emb x) = v x) :
    Held c b S A spec ⊢ (Held c b S A spec -∗ Q v) -∗ WP c (Prog.lift (.load m r.toLoadRect hl)) Q := by
  obtain ⟨sp, n, hn⟩ := b
  dsimp only at hb; subst hb
  obtain rfl := eq_of_heq hm
  exact wp_ld_aux v hS hA hv

/-- A load whose value is not used. -/
theorem wp_ldx {c : Dev nD} (b : Ref sig .tc) {cs : CoreSpace} (hb : b.space = .core cs) {m : Memref sig .tc (.core cs) b.ty.shape b.ty.elt}
    (hm : HEq m (Memref.whole b)) {r : Rect b.ty.shape} {hl : m.view.LoadsAt r.toLoadRect}
    {S : Finset b.ty.Idx} {A : b.ty.Idx → Prop} {spec : b.ty.Contents (Elt F)} {Q : sProp 𝕄} (hS : r.set ⊆ S) :
    Held c b S A spec ⊢ (Held c b S A spec -∗ Q) -∗ WP c (Prog.lift (.load m r.toLoadRect hl)) (fun _ => Q) := by
  obtain ⟨sp, n, hn⟩ := b
  dsimp only at hb; subst hb
  obtain rfl := eq_of_heq hm
  exact wp_ldx_aux hS

/-- A store of values that agree with `spec'`. -/
theorem wp_st {c : Dev nD} (b : Ref sig .tc) {cs : CoreSpace} (hb : b.space = .core cs) {m : Memref sig .tc (.core cs) b.ty.shape b.ty.elt}
    (hm : HEq m (Memref.whole b)) {r : Rect b.ty.shape} {w : r.shape.Idx → Elt F b.ty.elt}
    {hx : (m.access r).Stores Finset.univ} {hu : (Finset.univ : Finset r.shape.Idx) = Finset.univ ∨ ∀ a, r.stride a = 1}
    {S : Finset b.ty.Idx} {A : b.ty.Idx → Prop} (A' : b.ty.Idx → Prop) {spec : b.ty.Contents (Elt F)} (spec' : b.ty.Contents (Elt F))
    {Q : PUnit → sProp 𝕄} (hS : r.set ⊆ S)
    (hw : ∀ x, w x = spec' (r.emb x)) (hA : ∀ i, A' i → i ∉ r.set → A i ∧ spec i = spec' i) :
    Held c b S A spec ⊢ (Held c b S A' spec' -∗ Q ⟨⟩) -∗ WP c (Prog.lift (.store m r w Finset.univ hx hu)) Q := by
  obtain ⟨sp, n, hn⟩ := b
  dsimp only at hb; subst hb
  obtain rfl := eq_of_heq hm
  exact wp_st_aux hS hw hA

end Cert.KernelIdeal.Att

end
-- ==== Proof.KernelIdeal.Local.lean ====
/- What a device does on its own buffers: one head into the accumulators and the first slabs, one merge
   into the accumulators and the next slabs, the reads of the projection. -/
module

public import proofs.«01_k».proof.Proof.KernelIdeal.Held

@[expose] public section

set_option synthInstance.maxSize 4096

noncomputable section

namespace Cert.KernelIdeal.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rectangles by coordinates -/

theorem zero_of_lt {n : ℕ} (h : n < 1) : n = 0 := by omega

theorem emb_rAO1 (b : Fin 2) (h : Fin 8) (x : S1x1x64x128.Idx) : (rAO1 b h).emb x = ix4 b h (x 2) (x 3) := by
  funext a; apply Fin.ext
  have h0 := zero_of_lt (x 0).isLt; have h1 := zero_of_lt (x 1).isLt
  fin_cases a <;> simp [Rect.emb_apply, h0, h1]

theorem mem_rAO1 (b : Fin 2) (h : Fin 8) (i : S2x8x64x128.Idx) : i ∈ (rAO1 b h).set ↔ (i 0).val = b.val ∧ (i 1).val = h.val := by
  have h2 : (i 2).val < 64 := (i 2).isLt
  have h3 : (i 3).val < 128 := (i 3).isLt
  rw [Rect.mem_set_unit]
  simp [Fin.forall_fin_succ, Fin.ext_iff]
  omega

theorem emb_rAS1 (b : Fin 2) (h : Fin 8) (r : Fin 2) (x : S1x1x1x128.Idx) : (rAS1 b h r).emb x = ix4 b h r (x 3) := by
  funext a; apply Fin.ext
  have h0 := zero_of_lt (x 0).isLt; have h1 := zero_of_lt (x 1).isLt; have h2 := zero_of_lt (x 2).isLt
  fin_cases a <;> simp [Rect.emb_apply, h0, h1, h2]

theorem mem_rAS1 (b : Fin 2) (h : Fin 8) (r : Fin 2) (i : S2x8x2x128.Idx) : i ∈ (rAS1 b h r).set ↔ (i 0).val = b.val ∧ (i 1).val = h.val ∧ (i 2).val = r.val := by
  have h3 : (i 3).val < 128 := (i 3).isLt
  rw [Rect.mem_set_unit]
  simp [Fin.forall_fin_succ, Fin.ext_iff]
  omega

theorem emb_rO1 (g k : Fin 4) (b hh : Fin 2) (x : S1x1x1x1x64x128.Idx) : (rO1 g k b hh).emb x = ix6 g k b hh (x 4) (x 5) := by
  funext a; apply Fin.ext
  have h0 := zero_of_lt (x 0).isLt; have h1 := zero_of_lt (x 1).isLt; have h2 := zero_of_lt (x 2).isLt; have h3 := zero_of_lt (x 3).isLt
  fin_cases a <;> simp [Rect.emb_apply, h0, h1, h2, h3]

theorem mem_rO1 (g k : Fin 4) (b hh : Fin 2) (i : S4x4x2x2x64x128.Idx) :
    i ∈ (rO1 g k b hh).set ↔ (i 0).val = g.val ∧ (i 1).val = k.val ∧ (i 2).val = b.val ∧ (i 3).val = hh.val := by
  have h4 : (i 4).val < 64 := (i 4).isLt
  have h5 : (i 5).val < 128 := (i 5).isLt
  rw [Rect.mem_set_unit]
  simp [Fin.forall_fin_succ, Fin.ext_iff]
  omega

theorem emb_rS1 (g k : Fin 4) (b hh r : Fin 2) (x : S1x1x1x1x1x128.Idx) : (rS1 g k b hh r).emb x = ix6 g k b hh r (x 5) := by
  funext a; apply Fin.ext
  have h0 := zero_of_lt (x 0).isLt; have h1 := zero_of_lt (x 1).isLt; have h2 := zero_of_lt (x 2).isLt; have h3 := zero_of_lt (x 3).isLt
  have h4 := zero_of_lt (x 4).isLt
  fin_cases a <;> simp [Rect.emb_apply, h0, h1, h2, h3, h4]

theorem mem_rS1 (g k : Fin 4) (b hh r : Fin 2) (i : S4x4x2x2x2x128.Idx) :
    i ∈ (rS1 g k b hh r).set ↔ (i 0).val = g.val ∧ (i 1).val = k.val ∧ (i 2).val = b.val ∧ (i 3).val = hh.val ∧ (i 4).val = r.val := by
  have h5 : (i 5).val < 128 := (i 5).isLt
  rw [Rect.mem_set_unit]
  simp [Fin.forall_fin_succ, Fin.ext_iff]
  omega

theorem emb_rO (g k : Fin 4) (x : S1x1x2x2x64x128.Idx) : (rO g k).emb x = ix6 g k (x 2) (x 3) (x 4) (x 5) := by
  funext a; apply Fin.ext
  have h0 := zero_of_lt (x 0).isLt; have h1 := zero_of_lt (x 1).isLt
  fin_cases a <;> simp [Rect.emb_apply, h0, h1]

theorem mem_rO (g k : Fin 4) (i : S4x4x2x2x64x128.Idx) : i ∈ (rO g k).set ↔ (i 0).val = g.val ∧ (i 1).val = k.val := by
  have h2 : (i 2).val < 2 := (i 2).isLt
  have h3 : (i 3).val < 2 := (i 3).isLt
  have h4 : (i 4).val < 64 := (i 4).isLt
  have h5 : (i 5).val < 128 := (i 5).isLt
  rw [Rect.mem_set_unit]
  simp [Fin.forall_fin_succ, Fin.ext_iff]
  omega

theorem mem_rS (g k : Fin 4) (i : S4x4x2x2x2x128.Idx) : i ∈ (rS g k).set ↔ (i 0).val = g.val ∧ (i 1).val = k.val := by
  have h2 : (i 2).val < 2 := (i 2).isLt
  have h3 : (i 3).val < 2 := (i 3).isLt
  have h4 : (i 4).val < 2 := (i 4).isLt
  have h5 : (i 5).val < 128 := (i 5).isLt
  rw [Rect.mem_set_unit]
  simp [Fin.forall_fin_succ, Fin.ext_iff]
  omega

theorem emb_rSr (g k : Fin 4) (r : Fin 2) (x : S1x1x2x2x1x128.Idx) : (rSr g k r).emb x = ix6 g k (x 2) (x 3) r (x 5) := by
  funext a; apply Fin.ext
  have h0 := zero_of_lt (x 0).isLt; have h1 := zero_of_lt (x 1).isLt; have h4 := zero_of_lt (x 4).isLt
  fin_cases a <;> simp [Rect.emb_apply, h0, h1, h4]

theorem mem_rSr (g k : Fin 4) (r : Fin 2) (i : S4x4x2x2x2x128.Idx) : i ∈ (rSr g k r).set ↔ (i 0).val = g.val ∧ (i 1).val = k.val ∧ (i 4).val = r.val := by
  have h2 : (i 2).val < 2 := (i 2).isLt
  have h3 : (i 3).val < 2 := (i 3).isLt
  have h5 : (i 5).val < 128 := (i 5).isLt
  rw [Rect.mem_set_unit]
  simp [Fin.forall_fin_succ, Fin.ext_iff]
  omega

theorem emb_rAOg (g : Fin 4) (x : S2x2x64x128.Idx) : (rAOg g).emb x = ix4 (x 0) (headNo g (x 1)) (x 2) (x 3) := by
  funext a; apply Fin.ext
  fin_cases a <;> simp [Rect.emb_apply, headNo]

theorem mem_rAOg (g : Fin 4) (i : S2x8x64x128.Idx) : i ∈ (rAOg g).set ↔ grp (i 1) = g := by
  have h0 : (i 0).val < 2 := (i 0).isLt
  have h2 : (i 2).val < 64 := (i 2).isLt
  have h3 : (i 3).val < 128 := (i 3).isLt
  rw [Rect.mem_set_unit]
  simp [Fin.forall_fin_succ, Fin.ext_iff, grp]
  omega

theorem emb_rASg (g : Fin 4) (r : Fin 2) (x : S2x2x1x128.Idx) : (rASg g r).emb x = ix4 (x 0) (headNo g (x 1)) r (x 3) := by
  funext a; apply Fin.ext
  have h2 := zero_of_lt (x 2).isLt
  fin_cases a <;> simp [Rect.emb_apply, headNo, h2]

theorem mem_rASg (g : Fin 4) (r : Fin 2) (i : S2x8x2x128.Idx) : i ∈ (rASg g r).set ↔ grp (i 1) = g ∧ (i 2).val = r.val := by
  have h0 : (i 0).val < 2 := (i 0).isLt
  have h3 : (i 3).val < 128 := (i 3).isLt
  rw [Rect.mem_set_unit]
  simp [Fin.forall_fin_succ, Fin.ext_iff, grp]
  omega

theorem headNo_grp_par (h : Fin 8) : headNo (grp h) (par h) = h := Fin.ext (by simp [grp, par, headNo]; omega)

theorem emb_rOut (b : Fin 2) (x : S1x128x512.Idx) : (rOut b).emb x = ix3 b (x 1) (x 2) := by
  funext a; apply Fin.ext
  have h0 := zero_of_lt (x 0).isLt
  fin_cases a <;> simp [Rect.emb_apply, h0]

theorem mem_rOut (b : Fin 2) (i : S2x128x512.Idx) : i ∈ (rOut b).set ↔ (i 0).val = b.val := by
  have h1 : (i 1).val < 128 := (i 1).isLt
  have h2 : (i 2).val < 512 := (i 2).isLt
  rw [Rect.mem_set_unit]
  simp [Fin.forall_fin_succ, Fin.ext_iff]
  omega

/-! ## What the buffers hold in the course of the heads -/

variable (I : Ins F)

/-- The place of a head in the order of the heads. -/
def hidx (b : Fin 2) (h : Fin 8) : ℕ := 4 * (h.val / 2) + 2 * b.val + h.val % 2

theorem hidx_headNo (g : Fin 4) (b hh : Fin 2) : hidx b (headNo g hh) = 4 * g.val + 2 * b.val + hh.val := by
  simp only [hidx, headNo]; omega

theorem hidx_inj {b b' : Fin 2} {h h' : Fin 8} (e : hidx b h = hidx b' h') : b = b' ∧ h = h' := by
  simp only [hidx] at e
  constructor <;> apply Fin.ext <;> omega

/-- The accumulators when the first `t` heads are done. -/
def AOh (c : Dev nD) (t : ℕ) : sProp 𝕄 :=
  Held c cc0_scratch0 Finset.univ (fun i => hidx (i 0) (i 1) < t) (cAO I (fun _ => 0) c)
def ASh (c : Dev nD) (t : ℕ) : sProp 𝕄 :=
  Held c cc0_scratch1 Finset.univ (fun i => hidx (i 0) (i 1) < t) (cAS I (fun _ => 0) c)
/-- The slabs of group `g` when the first `u` heads of the group are done. -/
def SOh (c : Dev nD) (g : Fin 4) (u : ℕ) : sProp 𝕄 :=
  Held c cc0_scratch2 (rO g 0).set (fun i => i ∈ (rO g 0).set ∧ 2 * (i 2).val + (i 3).val < u) (cSO I c)
def SSh (c : Dev nD) (g : Fin 4) (u : ℕ) : sProp 𝕄 :=
  Held c cc0_scratch4 (rS g 0).set (fun i => i ∈ (rS g 0).set ∧ 2 * (i 2).val + (i 3).val < u) (cSS I c)
/-- The accumulators when group `g` has merged `n g` times. -/
def AOm (c : Dev nD) (n : Fin 4 → ℕ) : sProp 𝕄 := Held c cc0_scratch0 Finset.univ (fun _ => True) (cAO I n c)
def ASm (c : Dev nD) (n : Fin 4 → ℕ) : sProp 𝕄 := Held c cc0_scratch1 Finset.univ (fun _ => True) (cAS I n c)

/-- The staged inputs. -/
def Kin (c : Dev nD) : sProp 𝕄 := Held c cc0_stg3_0 Finset.univ (fun _ => True) (I.k c)
def Vin (c : Dev nD) : sProp 𝕄 := Held c cc0_stg4_0 Finset.univ (fun _ => True) (I.v c)

theorem st_zero (g : Fin 4) (c : Dev nD) : st I 0 g c = st0 I g c := by rw [st]
theorem st0_l (g : Fin 4) (c : Dev nD) (b hh : Fin 2) (r : Fin 128) :
    (st I 0 g c).l (ix4 b hh (0 : Fin 1) r) = hL (scV I c b (headNo g hh)) (ix2 (0 : Fin 1) r) := by
  rw [st_zero, st0]
theorem st0_m (g : Fin 4) (c : Dev nD) (b hh : Fin 2) (r : Fin 128) :
    (st I 0 g c).m (ix4 b hh (0 : Fin 1) r) = hM (scV I c b (headNo g hh)) (ix2 (0 : Fin 1) r) := by
  rw [st_zero, st0]
theorem st0_o (g : Fin 4) (c : Dev nD) (b hh : Fin 2) (d : Fin 64) (r : Fin 128) :
    (st I 0 g c).o (ix4 b hh d r) = hO (scV I c b (headNo g hh)) (headOf (I.v c) b (headNo g hh)) (ix2 d r) := by
  rw [st_zero, st0]

theorem cAS_sum (n : Fin 4 → ℕ) (c : Dev nD) (b : Fin 2) (h : Fin 8) (r : Fin 128) :
    cAS I n c (ix4 b h (1 : Fin 2) r) = (st I (n (grp h)) (grp h) c).l (ix4 b (par h) (0 : Fin 1) r) := if_neg Nat.one_ne_zero
theorem cAS_max (n : Fin 4 → ℕ) (c : Dev nD) (b : Fin 2) (h : Fin 8) (r : Fin 128) :
    cAS I n c (ix4 b h (0 : Fin 2) r) = (st I (n (grp h)) (grp h) c).m (ix4 b (par h) (0 : Fin 1) r) := if_pos rfl
theorem cSS_sum (c : Dev nD) (g k : Fin 4) (b hh : Fin 2) (r : Fin 128) :
    cSS I c (ix6 g k b hh (1 : Fin 2) r) = k0_pay202 (st I k.val g c).l (ix6 (0 : Fin 1) (0 : Fin 1) b hh (0 : Fin 1) r) := if_neg Nat.one_ne_zero
theorem cSS_max (c : Dev nD) (g k : Fin 4) (b hh : Fin 2) (r : Fin 128) :
    cSS I c (ix6 g k b hh (0 : Fin 2) r) = k0_pay201 (st I k.val g c).m (ix6 (0 : Fin 1) (0 : Fin 1) b hh (0 : Fin 1) r) := if_pos rfl

theorem cAO0_at (c : Dev nD) (b : Fin 2) (h : Fin 8) (d : Fin 64) (r : Fin 128) :
    cAO I (fun _ => 0) c (ix4 b h d r) = hO (scV I c b h) (headOf (I.v c) b h) (ix2 d r) := by
  refine (st0_o I (grp h) c b (par h) d r).trans ?_
  rw [headNo_grp_par]

theorem cAS0_at0 (c : Dev nD) (b : Fin 2) (h : Fin 8) (r : Fin 128) :
    cAS I (fun _ => 0) c (ix4 b h (0 : Fin 2) r) = hM (scV I c b h) (ix2 (0 : Fin 1) r) := by
  rw [cAS_max, st0_m, headNo_grp_par]

theorem cAS0_at1 (c : Dev nD) (b : Fin 2) (h : Fin 8) (r : Fin 128) :
    cAS I (fun _ => 0) c (ix4 b h (1 : Fin 2) r) = hL (scV I c b h) (ix2 (0 : Fin 1) r) := by
  rw [cAS_sum, st0_l, headNo_grp_par]

theorem truncf_congr {s s' : Shape} {x : FVec F s .f32} {y : FVec F s' .f32} {h : FTy.bits .bf16 < FTy.bits .f32} {i : s.Idx} {j : s'.Idx}
    (e : x i = y j) : truncf .bf16 x h i = truncf .bf16 y h j := by
  unfold truncf; rw [e]

theorem cSO0_at (c : Dev nD) (g : Fin 4) (b hh : Fin 2) (d : Fin 64) (r : Fin 128) :
    cSO I c (ix6 g (0 : Fin 4) b hh d r)
      = truncf .bf16 (hO (scV I c b (headNo g hh)) (headOf (I.v c) b (headNo g hh))) bitsLt_bf16_f32 (ix2 d r) := by
  show k0_pay200 (st0 I g c).o (ix6 (0 : Fin 1) (0 : Fin 1) b hh d r) = _
  rw [pay200_at]
  exact truncf_congr (st0_o I g c b hh d r)

theorem cSS0_at0 (c : Dev nD) (g : Fin 4) (b hh : Fin 2) (r : Fin 128) :
    cSS I c (ix6 g (0 : Fin 4) b hh (0 : Fin 2) r) = hM (scV I c b (headNo g hh)) (ix2 (0 : Fin 1) r) := by
  rw [cSS_max, pay201_at]; exact st0_m I g c b hh r

theorem cSS0_at1 (c : Dev nD) (g : Fin 4) (b hh : Fin 2) (r : Fin 128) :
    cSS I c (ix6 g (0 : Fin 4) b hh (1 : Fin 2) r) = hL (scV I c b (headNo g hh)) (ix2 (0 : Fin 1) r) := by
  rw [cSS_sum, pay202_at]; exact st0_l I g c b hh r

theorem subset_slab_O (g k : Fin 4) (b hh : Fin 2) : (rO1 g k b hh).set ⊆ (rO g k).set := fun i hi => by
  rw [mem_rO1] at hi; rw [mem_rO]; exact ⟨hi.1, hi.2.1⟩
theorem subset_slab_S (g k : Fin 4) (b hh r : Fin 2) : (rS1 g k b hh r).set ⊆ (rS g k).set := fun i hi => by
  rw [mem_rS1] at hi; rw [mem_rS]; exact ⟨hi.1, hi.2.1⟩
theorem subset_slab_Sr (g k : Fin 4) (r : Fin 2) : (rSr g k r).set ⊆ (rS g k).set := fun i hi => by
  rw [mem_rSr] at hi; rw [mem_rS]; exact ⟨hi.1, hi.2.1⟩

theorem hidx_lt {g : Fin 4} {b hh b' : Fin 2} {h' : Fin 8} (h : hidx b' h' < 4 * g.val + 2 * b.val + hh.val + 1)
    (hn : ¬ (b'.val = b.val ∧ h'.val = (headNo g hh).val)) : hidx b' h' < 4 * g.val + 2 * b.val + hh.val := by
  rw [← hidx_headNo] at h ⊢
  refine lt_of_le_of_ne (Nat.lt_succ_iff.mp h) fun e => hn ?_
  obtain ⟨e1, e2⟩ := hidx_inj e
  exact ⟨congrArg Fin.val e1, congrArg Fin.val e2⟩

/-- One head. -/
theorem headP_spec (c : Dev nD) (g : Fin 4) (b hh : Fin 2) (Q : PUnit → sProp 𝕄) :
    iprop(Kin I c ∗ Vin I c ∗ AOh I c (4 * g.val + 2 * b.val + hh.val) ∗ ASh I c (4 * g.val + 2 * b.val + hh.val)
        ∗ SOh I c g (2 * b.val + hh.val) ∗ SSh I c g (2 * b.val + hh.val))
      ⊢ (Kin I c ∗ Vin I c ∗ AOh I c (4 * g.val + 2 * b.val + hh.val + 1) ∗ ASh I c (4 * g.val + 2 * b.val + hh.val + 1)
        ∗ SOh I c g (2 * b.val + hh.val + 1) ∗ SSh I c g (2 * b.val + hh.val + 1) -∗ Q ⟨⟩)
      -∗ WP c (headP (qV (I.x c) (I.wq c)) g b hh) Q := by
  have w0 : ∀ x, k0_pay9 (hO (scV I c b (headNo g hh)) (headOf (I.v c) b (headNo g hh))) x
      = cAO I (fun _ => 0) c ((rAO1 b (headNo g hh)).emb x) := fun x => by
    rw [pay9_at, emb_rAO1]; exact (cAO0_at I c b _ _ _).symm
  have w1 : ∀ x, k0_pay10 (hM (scV I c b (headNo g hh))) x = cAS I (fun _ => 0) c ((rAS1 b (headNo g hh) 0).emb x) := fun x => by
    rw [pay10_at, emb_rAS1]; exact (cAS0_at0 I c b _ _).symm
  have w2 : ∀ x, k0_pay11 (hL (scV I c b (headNo g hh))) x = cAS I (fun _ => 0) c ((rAS1 b (headNo g hh) 1).emb x) := fun x => by
    rw [pay11_at, emb_rAS1]; exact (cAS0_at1 I c b _ _).symm
  have w3 : ∀ x, k0_pay12 (hO (scV I c b (headNo g hh)) (headOf (I.v c) b (headNo g hh))) x = cSO I c ((rO1 g 0 b hh).emb x) := fun x => by
    rw [pay12_at, emb_rO1]; exact (cSO0_at I c g b hh _ _).symm
  have w4 : ∀ x, k0_pay13 (hM (scV I c b (headNo g hh))) x = cSS I c ((rS1 g 0 b hh 0).emb x) := fun x => by
    rw [pay13_at, emb_rS1]; exact (cSS0_at0 I c g b hh _).symm
  have w5 : ∀ x, k0_pay14 (hL (scV I c b (headNo g hh))) x = cSS I c ((rS1 g 0 b hh 1).emb x) := fun x => by
    rw [pay14_at, emb_rS1]; exact (cSS0_at1 I c g b hh _).symm
  have a0 : ∀ i : S2x8x64x128.Idx, hidx (i 0) (i 1) < 4 * g.val + 2 * b.val + hh.val + 1 → i ∉ (rAO1 b (headNo g hh)).set →
      hidx (i 0) (i 1) < 4 * g.val + 2 * b.val + hh.val ∧ cAO I (fun _ => 0) c i = cAO I (fun _ => 0) c i := fun i hi hn =>
    ⟨hidx_lt hi fun e => hn ((mem_rAO1 _ _ _).mpr e), rfl⟩
  have a1 : ∀ i : S2x8x2x128.Idx, (hidx (i 0) (i 1) < 4 * g.val + 2 * b.val + hh.val
        ∨ (i 0).val = b.val ∧ (i 1).val = (headNo g hh).val ∧ (i 2).val = 0) → i ∉ (rAS1 b (headNo g hh) 0).set →
      hidx (i 0) (i 1) < 4 * g.val + 2 * b.val + hh.val ∧ cAS I (fun _ => 0) c i = cAS I (fun _ => 0) c i := fun i hi hn =>
    ⟨hi.resolve_right fun e => hn ((mem_rAS1 _ _ _ _).mpr e), rfl⟩
  have a2 : ∀ i : S2x8x2x128.Idx, hidx (i 0) (i 1) < 4 * g.val + 2 * b.val + hh.val + 1 → i ∉ (rAS1 b (headNo g hh) 1).set →
      (hidx (i 0) (i 1) < 4 * g.val + 2 * b.val + hh.val ∨ (i 0).val = b.val ∧ (i 1).val = (headNo g hh).val ∧ (i 2).val = 0)
        ∧ cAS I (fun _ => 0) c i = cAS I (fun _ => 0) c i := fun i hi hn => by
    refine ⟨?_, rfl⟩
    rw [mem_rAS1] at hn
    by_cases e : (i 0).val = b.val ∧ (i 1).val = (headNo g hh).val
    · refine Or.inr ⟨e.1, e.2, ?_⟩
      have h2 : (i 2).val < 2 := (i 2).isLt
      have : ¬ (i 2).val = 1 := fun h => hn ⟨e.1, e.2, h⟩
      omega
    · exact Or.inl (hidx_lt hi e)
  have a3 : ∀ i : S4x4x2x2x64x128.Idx, (i ∈ (rO g 0).set ∧ 2 * (i 2).val + (i 3).val < 2 * b.val + hh.val + 1) → i ∉ (rO1 g 0 b hh).set →
      (i ∈ (rO g 0).set ∧ 2 * (i 2).val + (i 3).val < 2 * b.val + hh.val) ∧ cSO I c i = cSO I c i := fun i hi hn => by
    refine ⟨⟨hi.1, ?_⟩, rfl⟩
    have hm := (mem_rO _ _ _).mp hi.1
    rw [mem_rO1] at hn
    have h2 : (i 2).val < 2 := (i 2).isLt
    have h3 : (i 3).val < 2 := (i 3).isLt
    have := hi.2
    have : ¬ ((i 2).val = b.val ∧ (i 3).val = hh.val) := fun h => hn ⟨hm.1, hm.2, h.1, h.2⟩
    omega
  have a4 : ∀ i : S4x4x2x2x2x128.Idx, (i ∈ (rS g 0).set ∧ (2 * (i 2).val + (i 3).val < 2 * b.val + hh.val
        ∨ (i 2).val = b.val ∧ (i 3).val = hh.val ∧ (i 4).val = 0)) → i ∉ (rS1 g 0 b hh 0).set →
      (i ∈ (rS g 0).set ∧ 2 * (i 2).val + (i 3).val < 2 * b.val + hh.val) ∧ cSS I c i = cSS I c i := fun i hi hn => by
    refine ⟨⟨hi.1, hi.2.resolve_right fun e => hn ?_⟩, rfl⟩
    have hm := (mem_rS _ _ _).mp hi.1
    exact (mem_rS1 _ _ _ _ _ _).mpr ⟨hm.1, hm.2, e⟩
  have a5 : ∀ i : S4x4x2x2x2x128.Idx, (i ∈ (rS g 0).set ∧ 2 * (i 2).val + (i 3).val < 2 * b.val + hh.val + 1) → i ∉ (rS1 g 0 b hh 1).set →
      (i ∈ (rS g 0).set ∧ (2 * (i 2).val + (i 3).val < 2 * b.val + hh.val
        ∨ (i 2).val = b.val ∧ (i 3).val = hh.val ∧ (i 4).val = 0)) ∧ cSS I c i = cSS I c i := fun i hi hn => by
    refine ⟨⟨hi.1, ?_⟩, rfl⟩
    have hm := (mem_rS _ _ _).mp hi.1
    rw [mem_rS1] at hn
    have h2 : (i 2).val < 2 := (i 2).isLt
    have h3 : (i 3).val < 2 := (i 3).isLt
    have h4 : (i 4).val < 2 := (i 4).isLt
    have := hi.2
    have : ¬ ((i 2).val = b.val ∧ (i 3).val = hh.val ∧ (i 4).val = 1) := fun h => hn ⟨hm.1, hm.2, h.1, h.2⟩
    have e0 : ((0 : Fin 2) : ℕ) = 0 := rfl
    omega
  iintro ⟨HK, HV, HAO, HAS, HSO, HSS⟩ Hk
  unfold headP
  simp only [wp_bind]
  unfold Kin Vin AOh ASh SOh SSh
  iapply (wp_ld cc0_stg3_0 rfl HEq.rfl (headOf (I.k c) b (headNo g hh)) (Finset.subset_univ _) (fun _ => trivial) (fun _ => rfl)) $$ HK
  iintro HK
  iapply (wp_ld cc0_stg4_0 rfl HEq.rfl (headOf (I.v c) b (headNo g hh)) (Finset.subset_univ _) (fun _ => trivial) (fun _ => rfl)) $$ HV
  iintro HV
  iapply (wp_ldx cc0_scratch0 rfl HEq.rfl (Finset.subset_univ _)) $$ HAO
  iintro HAO
  iapply (wp_st cc0_scratch0 rfl HEq.rfl _ _ (Finset.subset_univ _) w0 a0) $$ HAO
  iintro HAO
  iapply (wp_ldx cc0_scratch1 rfl HEq.rfl (Finset.subset_univ _)) $$ HAS
  iintro HAS
  iapply (wp_st cc0_scratch1 rfl HEq.rfl _ _ (Finset.subset_univ _) w1 a1) $$ HAS
  iintro HAS
  iapply (wp_ldx cc0_scratch1 rfl HEq.rfl (Finset.subset_univ _)) $$ HAS
  iintro HAS
  iapply (wp_st cc0_scratch1 rfl HEq.rfl _ _ (Finset.subset_univ _) w2 a2) $$ HAS
  iintro HAS
  iapply (wp_ldx cc0_scratch2 rfl HEq.rfl (subset_slab_O g 0 b hh)) $$ HSO
  iintro HSO
  iapply (wp_st cc0_scratch2 rfl HEq.rfl _ _ (subset_slab_O g 0 b hh) w3 a3) $$ HSO
  iintro HSO
  iapply (wp_ldx cc0_scratch4 rfl HEq.rfl (subset_slab_S g 0 b hh 0)) $$ HSS
  iintro HSS
  iapply (wp_st cc0_scratch4 rfl HEq.rfl _ _ (subset_slab_S g 0 b hh 0) w4 a4) $$ HSS
  iintro HSS
  iapply (wp_ldx cc0_scratch4 rfl HEq.rfl (subset_slab_S g 0 b hh 1)) $$ HSS
  iintro HSS
  iapply (wp_st cc0_scratch4 rfl HEq.rfl _ _ (subset_slab_S g 0 b hh 1) w5 a5) $$ HSS
  iintro HSS
  iapply Hk
  isplitl [HK]; · iexact HK
  isplitl [HV]; · iexact HV
  isplitl [HAO]; · iexact HAO
  isplitl [HAS]; · iexact HAS
  isplitl [HSO]; · iexact HSO
  iexact HSS

theorem headP_at (c : Dev nD) (g : Fin 4) (b hh : Fin 2) (t u : ℕ) (ht : t = 4 * g.val + 2 * b.val + hh.val) (hu : u = 2 * b.val + hh.val)
    (Q : PUnit → sProp 𝕄) :
    iprop(Kin I c ∗ Vin I c ∗ AOh I c t ∗ ASh I c t ∗ SOh I c g u ∗ SSh I c g u)
      ⊢ (Kin I c ∗ Vin I c ∗ AOh I c (t + 1) ∗ ASh I c (t + 1) ∗ SOh I c g (u + 1) ∗ SSh I c g (u + 1) -∗ Q ⟨⟩)
      -∗ WP c (headP (qV (I.x c) (I.wq c)) g b hh) Q := by
  subst ht hu; exact headP_spec I c g b hh Q

/-- A slab of an exchange buffer, at any contents. -/
def anySO (c : Dev nD) (g k : Fin 4) : sProp 𝕄 := iprop(∃ f, pB c cc0_scratch2 (rO g k).set f)
def anyRO (c : Dev nD) (g k : Fin 4) : sProp 𝕄 := iprop(∃ f, pB c cc0_scratch3 (rO g k).set f)
def anySS (c : Dev nD) (g k : Fin 4) : sProp 𝕄 := iprop(∃ f, pB c cc0_scratch4 (rS g k).set f)
def anyRS (c : Dev nD) (g k : Fin 4) : sProp 𝕄 := iprop(∃ f, pB c cc0_scratch5 (rS g k).set f)

/-- The slabs to send, written. -/
def fullSO (c : Dev nD) (g k : Fin 4) : sProp 𝕄 := pB c cc0_scratch2 (rO g k).set (cSO I c)
def fullSS (c : Dev nD) (g k : Fin 4) : sProp 𝕄 := pB c cc0_scratch4 (rS g k).set (cSS I c)
/-- The slabs received. -/
def fullRO (c : Dev nD) (g k : Fin 4) : sProp 𝕄 := pB c cc0_scratch3 (rO g k).set (cSO I (peer (mk g k) c))
def fullRS (c : Dev nD) (g k : Fin 4) : sProp 𝕄 := pB c cc0_scratch5 (rS g k).set (cSS I (peer (mk g k) c))

/-- The heads of a group. -/
theorem groupP_spec (c : Dev nD) (g : Fin 4) (t : ℕ) (ht : t = 4 * g.val) (Q : PUnit → sProp 𝕄) :
    iprop(Kin I c ∗ Vin I c ∗ AOh I c t ∗ ASh I c t ∗ anySO c g 0 ∗ anySS c g 0)
      ⊢ (Kin I c ∗ Vin I c ∗ AOh I c (t + 4) ∗ ASh I c (t + 4) ∗ fullSO I c g 0 ∗ fullSS I c g 0 -∗ Q ⟨⟩)
      -∗ WP c (groupP (qV (I.x c) (I.wq c)) g) Q := by
  unfold anySO anySS
  iintro ⟨HK, HV, HAO, HAS, ⟨%fo, HSO⟩, ⟨%fs, HSS⟩⟩ Hk
  ihave HSO := (held_none c cc0_scratch2 (rO g 0).set fo (cSO I c)) $$ HSO
  ihave HSS := (held_none c cc0_scratch4 (rS g 0).set fs (cSS I c)) $$ HSS
  ihave HSO := (held_mono (b := cc0_scratch2) (A' := fun i : S4x4x2x2x64x128.Idx => i ∈ (rO g 0).set ∧ 2 * (i 2).val + (i 3).val < 0) (spec' := cSO I c) fun i h => absurd h.2 (Nat.not_lt_zero _)) $$ HSO
  ihave HSS := (held_mono (b := cc0_scratch4) (A' := fun i : S4x4x2x2x2x128.Idx => i ∈ (rS g 0).set ∧ 2 * (i 2).val + (i 3).val < 0) (spec' := cSS I c) fun i h => absurd h.2 (Nat.not_lt_zero _)) $$ HSS
  unfold groupP
  simp only [wp_bind]
  iapply (headP_at I c g 0 0 t 0 (by subst ht; rfl) rfl) $$ [HK HV HAO HAS HSO HSS]
  · isplitl [HK]; · iexact HK
    isplitl [HV]; · iexact HV
    isplitl [HAO]; · iexact HAO
    isplitl [HAS]; · iexact HAS
    isplitl [HSO]; · unfold SOh; iexact HSO
    unfold SSh; iexact HSS
  iintro H
  iapply (headP_at I c g 0 1 (t + 1) 1 (by subst ht; rfl) rfl) $$ H
  iintro H
  iapply (headP_at I c g 1 0 (t + 2) 2 (by subst ht; rfl) rfl) $$ H
  iintro H
  iapply (headP_at I c g 1 1 (t + 3) 3 (by subst ht; rfl) rfl) $$ H
  iintro ⟨HK, HV, HAO, HAS, HSO, HSS⟩
  iapply Hk
  isplitl [HK]; · iexact HK
  isplitl [HV]; · iexact HV
  isplitl [HAO]; · iexact HAO
  isplitl [HAS]; · iexact HAS
  isplitl [HSO]
  · unfold SOh fullSO
    iapply (held_pts fun i hi => ⟨hi, by
      have h2 : (i 2).val < 2 := (i 2).isLt
      have h3 : (i 3).val < 2 := (i 3).isLt
      omega⟩) $$ HSO
  · unfold SSh fullSS
    iapply (held_pts fun i hi => ⟨hi, by
      have h2 : (i 2).val < 2 := (i 2).isLt
      have h3 : (i 3).val < 2 := (i 3).isLt
      omega⟩) $$ HSS

/-! ## A merge -/

theorem cAO_at (n : Fin 4 → ℕ) (c : Dev nD) (b : Fin 2) (g : Fin 4) (hh : Fin 2) (d : Fin 64) (r : Fin 128) :
    cAO I n c (ix4 b (headNo g hh) d r) = (st I (n g) g c).o (ix4 b hh d r) := by
  show (st I (n (grp (headNo g hh))) (grp (headNo g hh)) c).o (ix4 b (par (headNo g hh)) d r) = _
  rw [grp_headNo, par_headNo]

theorem cAS_at0 (n : Fin 4 → ℕ) (c : Dev nD) (b : Fin 2) (g : Fin 4) (hh : Fin 2) (r : Fin 128) :
    cAS I n c (ix4 b (headNo g hh) (0 : Fin 2) r) = (st I (n g) g c).m (ix4 b hh (0 : Fin 1) r) := by
  rw [cAS_max, grp_headNo, par_headNo]

theorem cAS_at1 (n : Fin 4 → ℕ) (c : Dev nD) (b : Fin 2) (g : Fin 4) (hh : Fin 2) (r : Fin 128) :
    cAS I n c (ix4 b (headNo g hh) (1 : Fin 2) r) = (st I (n g) g c).l (ix4 b hh (0 : Fin 1) r) := by
  rw [cAS_sum, grp_headNo, par_headNo]

/-- The loads of a merge. -/
theorem mergeP_spec {α : Type} (c : Dev nD) (g k : Fin 4) (n : Fin 4 → ℕ) (hn : n g = k.val) (Q : α → sProp 𝕄)
    (rest : Vec F S1x1x2x2x64x128 .bf16 → Vec F S1x1x2x2x1x128 .f32 → Vec F S1x1x2x2x1x128 .f32 →
      Vec F S2x2x1x128 .f32 → Vec F S2x2x1x128 .f32 → Vec F S2x2x64x128 .f32 → PG F α) :
    iprop(fullRO I c g k ∗ fullRS I c g k ∗ AOm I c n ∗ ASm I c n)
      ⊢ (fullRO I c g k ∗ fullRS I c g k ∗ AOm I c n ∗ ASm I c n -∗
          WP c (rest (k0_pay200 (st I k.val g (peer (mk g k) c)).o) (k0_pay201 (st I k.val g (peer (mk g k) c)).m)
            (k0_pay202 (st I k.val g (peer (mk g k) c)).l) (st I k.val g c).m (st I k.val g c).l (st I k.val g c).o) Q)
      -∗ WP c (mergeP g k rest) Q := by
  have v0 : ∀ x, cSO I (peer (mk g k) c) ((rO g k).emb x) = k0_pay200 (st I k.val g (peer (mk g k) c)).o x := fun x => by
    rw [emb_rO, pay200_at]; unfold cSO; rw [pay200_at]
  have v1 : ∀ x, cSS I (peer (mk g k) c) ((rSr g k 0).emb x) = k0_pay201 (st I k.val g (peer (mk g k) c)).m x := fun x => by
    rw [emb_rSr, pay201_at]; refine (cSS_max I _ g k _ _ _).trans ?_; rw [pay201_at]
  have v2 : ∀ x, cSS I (peer (mk g k) c) ((rSr g k 1).emb x) = k0_pay202 (st I k.val g (peer (mk g k) c)).l x := fun x => by
    rw [emb_rSr, pay202_at]; refine (cSS_sum I _ g k _ _ _).trans ?_; rw [pay202_at]
  have v3 : ∀ x, cAS I n c ((rASg g 0).emb x) = (st I k.val g c).m x := fun x => by
    rw [emb_rASg]; refine (cAS_at0 I n c _ g _ _).trans ?_
    rw [hn]; congr 1; funext a; apply Fin.ext
    have h2 := zero_of_lt (x 2).isLt
    fin_cases a <;> simp [h2]
  have v4 : ∀ x, cAS I n c ((rASg g 1).emb x) = (st I k.val g c).l x := fun x => by
    rw [emb_rASg]; refine (cAS_at1 I n c _ g _ _).trans ?_
    rw [hn]; congr 1; funext a; apply Fin.ext
    have h2 := zero_of_lt (x 2).isLt
    fin_cases a <;> simp [h2]
  have v5 : ∀ x, cAO I n c ((rAOg g).emb x) = (st I k.val g c).o x := fun x => by
    rw [emb_rAOg]; refine (cAO_at I n c _ g _ _ _).trans ?_
    rw [hn]; congr 1; funext a; apply Fin.ext
    fin_cases a <;> rfl
  iintro ⟨HRO, HRS, HAO, HAS⟩ Hk
  unfold mergeP fullRO fullRS AOm ASm
  simp only [wp_bind]
  ihave HRO := (held_intro c cc0_scratch3 _ _) $$ HRO
  ihave HRS := (held_intro c cc0_scratch5 _ _) $$ HRS
  iapply (wp_ld cc0_scratch3 rfl HEq.rfl _ (subset_refl _) (fun _ => trivial) v0) $$ HRO
  iintro HRO
  iapply (wp_ld cc0_scratch5 rfl HEq.rfl _ (subset_slab_Sr g k 0) (fun _ => trivial) v1) $$ HRS
  iintro HRS
  iapply (wp_ld cc0_scratch5 rfl HEq.rfl _ (subset_slab_Sr g k 1) (fun _ => trivial) v2) $$ HRS
  iintro HRS
  iapply (wp_ld cc0_scratch1 rfl HEq.rfl _ (Finset.subset_univ _) (fun _ => trivial) v3) $$ HAS
  iintro HAS
  iapply (wp_ld cc0_scratch1 rfl HEq.rfl _ (Finset.subset_univ _) (fun _ => trivial) v4) $$ HAS
  iintro HAS
  iapply (wp_ld cc0_scratch0 rfl HEq.rfl _ (Finset.subset_univ _) (fun _ => trivial) v5) $$ HAO
  iintro HAO
  ihave HRO := (held_pts fun _ _ => trivial) $$ HRO
  ihave HRS := (held_pts fun _ _ => trivial) $$ HRS
  iapply Hk
  isplitl [HRO]; · iexact HRO
  isplitl [HRS]; · iexact HRS
  isplitl [HAO]; · iexact HAO
  iexact HAS

/-- The group whose state a merge changes. -/
theorem st_update (n : Fin 4 → ℕ) (g g' : Fin 4) (t : ℕ) (h : g' ≠ g) (c : Dev nD) :
    st I (Function.update n g t g') g' c = st I (n g') g' c := by rw [Function.update_of_ne h]

theorem cAO_update (n : Fin 4 → ℕ) (g : Fin 4) (t : ℕ) (c : Dev nD) (i : S2x8x64x128.Idx) (h : ¬ grp (i 1) = g) :
    cAO I n c i = cAO I (Function.update n g t) c i := by
  show (st I (n (grp (i 1))) (grp (i 1)) c).o _ = (st I (Function.update n g t (grp (i 1))) (grp (i 1)) c).o _
  rw [st_update I n g _ t h]

theorem cAS_update (n : Fin 4 → ℕ) (g : Fin 4) (t : ℕ) (c : Dev nD) (i : S2x8x2x128.Idx) (h : ¬ grp (i 1) = g) :
    cAS I n c i = cAS I (Function.update n g t) c i := by
  unfold cAS
  rw [st_update I n g _ t h]

/-- The merged state into the accumulators. -/
theorem accP_spec (c : Dev nD) (g k : Fin 4) (n : Fin 4 → ℕ) (Q : PUnit → sProp 𝕄) :
    iprop(AOm I c n ∗ ASm I c n)
      ⊢ (AOm I c (Function.update n g (k.val + 1)) ∗ ASm I c (Function.update n g (k.val + 1)) -∗ Q ⟨⟩)
      -∗ WP c (accP g (k0_pay200 (st I k.val g (peer (mk g k) c)).o) (k0_pay201 (st I k.val g (peer (mk g k) c)).m)
            (k0_pay202 (st I k.val g (peer (mk g k) c)).l) (st I k.val g c).m (st I k.val g c).l (st I k.val g c).o) Q := by
  have hu : (Function.update n g (k.val + 1)) g = k.val + 1 := Function.update_self ..
  have w0 : ∀ x, k0_pay197 (k0_pay200 (st I k.val g (peer (mk g k) c)).o) (k0_pay201 (st I k.val g (peer (mk g k) c)).m) (st I k.val g c).m (st I k.val g c).o x
      = cAO I (Function.update n g (k.val + 1)) c ((rAOg g).emb x) := fun x => by
    rw [emb_rAOg, pay197_eq]; refine Eq.trans ?_ (cAO_at I _ c _ g _ _ _).symm
    rw [hu, st_succ]
    show (merge (st I k.val g (peer (mk g k) c)) (st I k.val g c)).o x = _
    congr 1; funext a; apply Fin.ext
    fin_cases a <;> rfl
  have w1 : ∀ x, k0_pay198 (k0_pay192 (k0_pay201 (st I k.val g (peer (mk g k) c)).m) (st I k.val g c).m) x
      = cAS I (Function.update n g (k.val + 1)) c ((rASg g 0).emb x) := fun x => by
    rw [emb_rASg, pay198_eq]; refine Eq.trans ?_ (cAS_at0 I _ c _ g _ _).symm
    rw [hu, st_succ]
    show (merge (st I k.val g (peer (mk g k) c)) (st I k.val g c)).m x = _
    congr 1; funext a; apply Fin.ext
    have h2 := zero_of_lt (x 2).isLt
    fin_cases a <;> simp [h2]
  have w2 : ∀ x, k0_pay199 (k0_pay196 (k0_pay201 (st I k.val g (peer (mk g k) c)).m) (k0_pay202 (st I k.val g (peer (mk g k) c)).l) (st I k.val g c).m (st I k.val g c).l) x
      = cAS I (Function.update n g (k.val + 1)) c ((rASg g 1).emb x) := fun x => by
    rw [emb_rASg, pay199_eq]; refine Eq.trans ?_ (cAS_at1 I _ c _ g _ _).symm
    rw [hu, st_succ]
    show (merge (st I k.val g (peer (mk g k) c)) (st I k.val g c)).l x = _
    congr 1; funext a; apply Fin.ext
    have h2 := zero_of_lt (x 2).isLt
    fin_cases a <;> simp [h2]
  have a0 : ∀ i : S2x8x64x128.Idx, True → i ∉ (rAOg g).set → True ∧ cAO I n c i = cAO I (Function.update n g (k.val + 1)) c i :=
    fun i _ hi => ⟨trivial, cAO_update I n g _ c i fun h => hi ((mem_rAOg g i).mpr h)⟩
  have a1 : ∀ i : S2x8x2x128.Idx, (grp (i 1) = g → (i 2).val = 0) → i ∉ (rASg g 0).set → True ∧ cAS I n c i = cAS I (Function.update n g (k.val + 1)) c i :=
    fun i h0 hi => ⟨trivial, cAS_update I n g _ c i fun h => hi ((mem_rASg g 0 i).mpr ⟨h, h0 h⟩)⟩
  have a2 : ∀ i : S2x8x2x128.Idx, True → i ∉ (rASg g 1).set →
      (grp (i 1) = g → (i 2).val = 0) ∧ cAS I (Function.update n g (k.val + 1)) c i = cAS I (Function.update n g (k.val + 1)) c i :=
    fun i _ hi => ⟨fun h => by
      have h2 : (i 2).val < 2 := (i 2).isLt
      have : ¬ (i 2).val = 1 := fun h1 => hi ((mem_rASg g 1 i).mpr ⟨h, h1⟩)
      omega, rfl⟩
  iintro ⟨HAO, HAS⟩ Hk
  unfold accP AOm ASm
  simp only [wp_bind]
  iapply (wp_ldx cc0_scratch0 rfl HEq.rfl (Finset.subset_univ _)) $$ HAO
  iintro HAO
  iapply (wp_st cc0_scratch0 rfl HEq.rfl _ _ (Finset.subset_univ _) w0 a0) $$ HAO
  iintro HAO
  iapply (wp_ldx cc0_scratch1 rfl HEq.rfl (Finset.subset_univ _)) $$ HAS
  iintro HAS
  iapply (wp_st cc0_scratch1 rfl HEq.rfl _ _ (Finset.subset_univ _) w1 a1) $$ HAS
  iintro HAS
  iapply (wp_ldx cc0_scratch1 rfl HEq.rfl (Finset.subset_univ _)) $$ HAS
  iintro HAS
  iapply (wp_st cc0_scratch1 rfl HEq.rfl _ _ (Finset.subset_univ _) w2 a2) $$ HAS
  iintro HAS
  iapply Hk
  isplitl [HAO]; · iexact HAO
  iexact HAS

/-- The merged state into the slabs of the next step. -/
theorem nextP_spec (c : Dev nD) (g k k' : Fin 4) (hk : k'.val = k.val + 1) (Q : PUnit → sProp 𝕄) :
    iprop(anySO c g k' ∗ anySS c g k')
      ⊢ (fullSO I c g k' ∗ fullSS I c g k' -∗ Q ⟨⟩)
      -∗ WP c (nextP g k' (k0_pay200 (st I k.val g (peer (mk g k) c)).o) (k0_pay201 (st I k.val g (peer (mk g k) c)).m)
            (k0_pay202 (st I k.val g (peer (mk g k) c)).l) (st I k.val g c).m (st I k.val g c).l (st I k.val g c).o) Q := by
  have hs : st I k'.val g c = merge (st I k.val g (peer (mk g k) c)) (st I k.val g c) := by rw [hk, st_succ]
  have w0 : ∀ x, k0_pay200 (k0_pay195 (k0_pay200 (st I k.val g (peer (mk g k) c)).o) (k0_pay201 (st I k.val g (peer (mk g k) c)).m) (st I k.val g c).m (st I k.val g c).o) x
      = cSO I c ((rO g k').emb x) := fun x => by
    rw [emb_rO, pay200_at]; unfold cSO; rw [pay200_at]
    refine congrArg (fun y : Vec F S2x2x64x128 .f32 => truncf .bf16 y bitsLt_bf16_f32 (ix4 (x 2) (x 3) (x 4) (x 5))) ?_
    exact (congrArg St.o hs).symm
  have w1 : ∀ x, k0_pay201 (k0_pay192 (k0_pay201 (st I k.val g (peer (mk g k) c)).m) (st I k.val g c).m) x
      = cSS I c ((rSr g k' 0).emb x) := fun x => by
    rw [emb_rSr, pay201_at]; refine Eq.trans ?_ (cSS_max I _ g k' _ _ _).symm; rw [pay201_at]
    exact congrFun (congrArg St.m hs).symm _
  have w2 : ∀ x, k0_pay202 (k0_pay196 (k0_pay201 (st I k.val g (peer (mk g k) c)).m) (k0_pay202 (st I k.val g (peer (mk g k) c)).l) (st I k.val g c).m (st I k.val g c).l) x
      = cSS I c ((rSr g k' 1).emb x) := fun x => by
    rw [emb_rSr, pay202_at]; refine Eq.trans ?_ (cSS_sum I _ g k' _ _ _).symm; rw [pay202_at]
    exact congrFun (congrArg St.l hs).symm _
  have a0 : ∀ i : S4x4x2x2x64x128.Idx, i ∈ (rO g k').set → i ∉ (rO g k').set → False ∧ cSO I c i = cSO I c i := fun i h hn => absurd h hn
  have a1 : ∀ i : S4x4x2x2x2x128.Idx, (i ∈ (rS g k').set ∧ (i 4).val = 0) → i ∉ (rSr g k' 0).set → False ∧ cSS I c i = cSS I c i := fun i h hn => by
    have hm := (mem_rS _ _ _).mp h.1
    exact absurd ((mem_rSr g k' 0 i).mpr ⟨hm.1, hm.2, h.2⟩) hn
  have a2 : ∀ i : S4x4x2x2x2x128.Idx, i ∈ (rS g k').set → i ∉ (rSr g k' 1).set → (i ∈ (rS g k').set ∧ (i 4).val = 0) ∧ cSS I c i = cSS I c i := fun i h hn => by
    have hm := (mem_rS _ _ _).mp h
    have h4 : (i 4).val < 2 := (i 4).isLt
    have : ¬ (i 4).val = 1 := fun e => hn ((mem_rSr g k' 1 i).mpr ⟨hm.1, hm.2, e⟩)
    exact ⟨⟨h, by omega⟩, rfl⟩
  unfold anySO anySS
  iintro ⟨⟨%fo, HSO⟩, ⟨%fs, HSS⟩⟩ Hk
  ihave HSO := (held_none c cc0_scratch2 (rO g k').set fo (cSO I c)) $$ HSO
  ihave HSS := (held_none c cc0_scratch4 (rS g k').set fs (cSS I c)) $$ HSS
  unfold nextP
  simp only [wp_bind]
  iapply (wp_ldx cc0_scratch2 rfl HEq.rfl (subset_refl _)) $$ HSO
  iintro HSO
  iapply (wp_st cc0_scratch2 rfl HEq.rfl _ _ (subset_refl _) w0 a0) $$ HSO
  iintro HSO
  iapply (wp_ldx cc0_scratch4 rfl HEq.rfl (subset_slab_Sr g k' 0)) $$ HSS
  iintro HSS
  iapply (wp_st cc0_scratch4 rfl HEq.rfl _ _ (subset_slab_Sr g k' 0) w1 a1) $$ HSS
  iintro HSS
  iapply (wp_ldx cc0_scratch4 rfl HEq.rfl (subset_slab_Sr g k' 1)) $$ HSS
  iintro HSS
  iapply (wp_st cc0_scratch4 rfl HEq.rfl _ _ (subset_slab_Sr g k' 1) w2 a2) $$ HSS
  iintro HSS
  iapply Hk
  unfold fullSO fullSS
  isplitl [HSO]
  · iapply (held_pts fun i hi => hi) $$ HSO
  · iapply (held_pts fun i hi => hi) $$ HSS

/-! ## The projection's reads and the result -/

def Win (c : Dev nD) : sProp 𝕄 := Held c cc0_stg2_0 Finset.univ (fun _ => True) (I.wo c)

/-- Half `p` of the projection's reads, its two groups merged four times. -/
theorem projP_spec {α : Type} (c : Dev nD) (p : Fin 2) (n : Fin 4 → ℕ) (hn : ∀ g : Fin 4, g.val / 2 = p.val → n g = 4) (Q : α → sProp 𝕄)
    (rest : Vec F S2x4x64x128 .f32 → Vec F S2x4x1x128 .f32 → Vec F S256x512 .bf16 → PG F α) :
    iprop(AOm I c n ∗ ASm I c n ∗ Win I c)
      ⊢ (AOm I c n ∗ ASm I c n ∗ Win I c -∗ WP c (rest (finO I c p) (finL I c p) (woV I c p)) Q)
      -∗ WP c (projP p rest) Q := by
  have hg : ∀ h : Fin 8, h.val / 4 = p.val → n (grp h) = 4 := fun h e => hn _ (by
    show h.val / 2 / 2 = p.val
    omega)
  have v0 : ∀ x, cAO I n c ((rAOp p).emb x) = finO I c p x := fun x => by
    have e : n (grp ((rAOp p).emb x 1)) = 4 := hg _ (by
      have h1 : (x 1).val < 4 := (x 1).isLt
      have : ((rAOp p).emb x 1).val = 4 * p.val + (x 1).val := by simp [Rect.emb_apply]
      omega)
    exact congrArg (fun t => (st I t (grp ((rAOp p).emb x 1)) c).o
      (ix4 ((rAOp p).emb x 0) (par ((rAOp p).emb x 1)) ((rAOp p).emb x 2) ((rAOp p).emb x 3))) e
  have v1 : ∀ x, cAS I n c ((rASp p).emb x) = finL I c p x := fun x => by
    have e : n (grp ((rASp p).emb x 1)) = 4 := hg _ (by
      have h1 : (x 1).val < 4 := (x 1).isLt
      have : ((rASp p).emb x 1).val = 4 * p.val + (x 1).val := by simp [Rect.emb_apply]
      omega)
    exact congrArg (fun t => if ((rASp p).emb x 2).val = 0 then
        (st I t (grp ((rASp p).emb x 1)) c).m (ix4 ((rASp p).emb x 0) (par ((rASp p).emb x 1)) (0 : Fin 1) ((rASp p).emb x 3))
      else (st I t (grp ((rASp p).emb x 1)) c).l (ix4 ((rASp p).emb x 0) (par ((rASp p).emb x 1)) (0 : Fin 1) ((rASp p).emb x 3))) e
  iintro ⟨HAO, HAS, HW⟩ Hk
  unfold projP AOm ASm Win
  simp only [wp_bind]
  iapply (wp_ld cc0_scratch0 rfl HEq.rfl _ (Finset.subset_univ _) (fun _ => trivial) v0) $$ HAO
  iintro HAO
  iapply (wp_ld cc0_scratch1 rfl HEq.rfl _ (Finset.subset_univ _) (fun _ => trivial) v1) $$ HAS
  iintro HAS
  iapply (wp_ld cc0_stg2_0 rfl HEq.rfl (woV I c p) (Finset.subset_univ _) (fun _ => trivial) (fun _ => rfl)) $$ HW
  iintro HW
  iapply Hk
  isplitl [HAO]; · iexact HAO
  isplitl [HAS]; · iexact HAS
  iexact HW

end Cert.KernelIdeal.Att

end
-- ==== Proof.KernelIdeal.Protocol.lean ====
/- The exchange's protocol: which semaphore cell of a device carries which resources from whom, what
   every device owes at each point of its program, and the rules for one signal, one start and one
   wait under it. -/
module

public import proofs.«01_k».proof.Proof.KernelIdeal.Local

@[expose] public section

set_option synthInstance.maxSize 4096

noncomputable section

namespace Cert.KernelIdeal.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells of a device -/

/-- The entry and the exit barrier; for step `k` of group `g` the send and receive cells of the
    outputs (0, 1) and of the statistics (2, 3). -/
abbrev Cx : Type := Fin 2 ⊕ ((Fin 4 × Fin 4) × Fin 4)

def barOf (e : Fin 2) : Sem sig := ![semB, semE] e
def semOf (κ : Fin 4) : DmaSems sig S4x4 := ![cc0_scratch6, cc0_scratch7, cc0_scratch8, cc0_scratch9] κ

def csem : Cx → SemLoc sig
  | .inl e => .reg (barOf e)
  | .inr ((k, g), κ) => .dma (semAt (semOf κ) g k)

theorem csem_injective : Function.Injective csem := by decide +kernel

/-- The cell a semaphore is, if it is one of them. -/
def dec (s : SemLoc sig) : Option Cx := Function.partialInv csem s
theorem dec_csem (x : Cx) : dec (csem x) = some x := Function.partialInv_left csem_injective x
theorem dec_none {s : SemLoc sig} (h : ∀ x, csem x ≠ s) : dec s = none := by
  unfold dec Function.partialInv; exact dif_neg fun ⟨x, e⟩ => h x e

abbrev cell (c : Dev nD) (x : Cx) : GSem nD τ sig := ((c : Thread nD τ), csem x)

/-! ## The schedule -/

abbrev NO : ℕ := (slabO mSO 0 0).view.dmaCredit
abbrev NS : ℕ := (slabS mSS 0 0).view.dmaCredit
theorem NO_pos : 0 < NO := View.dmaCredit_pos _ (by decide)
theorem NS_pos : 0 < NS := View.dmaCredit_pos _ (by decide)

def amt (κ : Fin 4) : ℕ := if κ.val < 2 then NO else NS
theorem amt_pos (κ : Fin 4) : 0 < amt κ := by unfold amt; split; exacts [NO_pos, NS_pos]

/-- What `p`'s signal at mask `d` hands over at the entry barrier: the receive slabs of the four
    transfers over that mask. -/
def barPay (p : Dev nD) (d : Fin 4) : sProp 𝕄 := bigSep Finset.univ fun k : Fin 4 => iprop(anyRO p (d - k) k ∗ anyRS p (d - k) k)

def dutiesOf : Option Cx → Finset (Fin 4)
  | none => ∅
  | some (.inl _) => Finset.univ
  | some (.inr _) => {0}

def amountOf : Option Cx → ℕ
  | none => 1
  | some (.inl _) => 1
  | some (.inr (_, κ)) => amt κ

def payOf (I : Ins F) (c : Dev nD) : Option Cx → Fin 4 → sProp 𝕄
  | none, _ => iprop(emp)
  | some (.inl e), d => if e = 0 then barPay (peer d c) d else iprop(emp)
  | some (.inr ((k, g), κ)), _ =>
    if κ = 0 then fullSO I c g k else if κ = 1 then fullRO I c g k else if κ = 2 then fullSS I c g k else fullRS I c g k

omit [FloatOps F] in
instance anySO_storable (c : Dev nD) (g k : Fin 4) : BI.Storable (upEmb : UEmb _ 𝕄) (anySO (F := F) c g k) := by unfold anySO; infer_instance
omit [FloatOps F] in
instance anyRO_storable (c : Dev nD) (g k : Fin 4) : BI.Storable (upEmb : UEmb _ 𝕄) (anyRO (F := F) c g k) := by unfold anyRO; infer_instance
omit [FloatOps F] in
instance anyRS_storable (c : Dev nD) (g k : Fin 4) : BI.Storable (upEmb : UEmb _ 𝕄) (anyRS (F := F) c g k) := by unfold anyRS; infer_instance

instance payOf_storable (I : Ins F) (c : Dev nD) (o : Option Cx) (d : Fin 4) : BI.Storable (upEmb : UEmb _ 𝕄) (payOf I c o d) := by
  unfold payOf barPay fullSO fullRO fullSS fullRS
  (repeat' split) <;> infer_instance

/-- One round, round 0. -/
def sched (I : Ins F) : Rounds.Schedule (GSem nD τ sig) (Fin 4) 𝕄 where
  duties g r := if r = 0 ∧ g.1.2 = .tc then dutiesOf (dec g.2) else ∅
  unitless _ := False
  amount g _ _ := amountOf (dec g.2)
  payload g _ d := payOf I g.1.1 (dec g.2) d
  amount_pos g _ _ _ := by
    rcases dec g.2 with _ | _ | ⟨_, κ⟩
    exacts [Nat.one_pos, Nat.one_pos, amt_pos κ]

instance sched_storable (I : Ins F) (g : GSem nD τ sig) (r : ℕ) (d : Fin 4) :
    BI.Storable (upEmb : UEmb _ 𝕄) ((sched I).payload g r d) := payOf_storable I g.1.1 (dec g.2) d

section Sched
variable (I : Ins F) (c : Dev nD)

theorem duties_cell (x : Cx) : (sched I).duties (cell c x) 0 = dutiesOf (some x) := by
  dsimp only [sched]; rw [dec_csem]; exact if_pos ⟨rfl, rfl⟩
theorem duties_later (g : GSem nD τ sig) : ∀ r, 1 ≤ r → (sched I).duties g r = ∅ :=
  fun r hr => by dsimp only [sched]; exact if_neg fun h => by omega
theorem amount_cell (x : Cx) (d : Fin 4) : (sched I).amount (cell c x) 0 d = amountOf (some x) := by
  dsimp only [sched]; rw [dec_csem]
theorem payload_cell (x : Cx) (d : Fin 4) : (sched I).payload (cell c x) 0 d = payOf I c (some x) d := by
  dsimp only [sched]; rw [dec_csem]
theorem expect_bar (e : Fin 2) : (sched I).expect (cell c (.inl e)) 0 = 4 := by
  unfold Schedule.expect Schedule.amountOf
  rw [duties_cell, Finset.sum_congr rfl fun d _ => amount_cell I c _ d]
  rfl
theorem expect_dma (s : Fin 4 × Fin 4) (κ : Fin 4) : (sched I).expect (cell c (.inr (s, κ))) 0 = amt κ := by
  unfold Schedule.expect Schedule.amountOf
  rw [duties_cell, Finset.sum_congr rfl fun d _ => amount_cell I c _ d]
  exact Finset.sum_singleton _ _
theorem rest_bar (e : Fin 2) : bigSep ((sched I).duties (cell c (.inl e)) 0 \ ∅) (fun d => (sched I).payload (cell c (.inl e)) 0 d)
    = bigSep Finset.univ fun d => payOf I c (some (.inl e)) d := by
  rw [Finset.sdiff_empty, duties_cell]
  exact bigSep_congr fun d _ => payload_cell I c _ d
theorem rest_dma (s : Fin 4 × Fin 4) (κ : Fin 4) :
    bigSep ((sched I).duties (cell c (.inr (s, κ))) 0 \ ∅) (fun d => (sched I).payload (cell c (.inr (s, κ))) 0 d) = payOf I c (some (.inr (s, κ))) 0 := by
  rw [Finset.sdiff_empty, duties_cell]
  exact (show bigSep ({0} : Finset (Fin 4)) _ = _ from bigSep_singleton).trans (payload_cell I c _ 0)

end Sched

/-! ## What a device owes, and the levels -/

def lvx : Cx → ℕ
  | .inl e => if e = 0 then 1 else 100
  | .inr ((k, g), κ) => if κ.val % 2 = 1 then 2 + (4 * k.val + g.val) else 0

def L (g : GSem nD τ sig) : Finset Unit := if g.1.2 = .tc then {()} else ∅
def lv (g : GSem nD τ sig) (_ : Unit) : ℕ := match dec g.2 with | some x => lvx x | none => 0

theorem L_of_ne (g : GSem nD τ sig) (h : g.1.2 ≠ .tc) : L g = ∅ := if_neg h
theorem lv_cell (c : Dev nD) (x : Cx) : lv (cell c x) () = lvx x := by unfold lv; rw [dec_csem]

abbrev CT : Type := CellTallies nD τ sig Unit

/-- The four signals of a barrier, the first on top. -/
def sigOwed (e : Fin 2) (c : Dev nD) (O : CT) : CT :=
  O + tallyAt (cell (peer 3 c) (.inl e)) () 1 + tallyAt (cell (peer 2 c) (.inl e)) () 1 + tallyAt (cell (peer 1 c) (.inl e)) () 1
    + tallyAt (cell (peer 0 c) (.inl e)) () 1

/-- The step and the group of the start after which `m` remain. -/
def slotK (m : ℕ) : Fin 4 := Fin.ofNat 4 ((15 - m) / 4)
def slotG (m : ℕ) : Fin 4 := Fin.ofNat 4 ((15 - m) % 4)

/-- What a device owes with `m` starts to go: their arrivals and the exit barrier. -/
def owing (c : Dev nD) : ℕ → CT
  | 0 => sigOwed 1 c 0
  | m + 1 => owing c m + tallyAt (cell (peer (mk (slotG m) (slotK m)) c) (.inr ((slotK m, slotG m), 3))) () NS
      + tallyAt (cell (peer (mk (slotG m) (slotK m)) c) (.inr ((slotK m, slotG m), 1))) () NO

/-- What it owes at launch. -/
def O₀ (c : Dev nD) : CT := sigOwed 0 c (owing c 16)

/-- Everything owed is on a TensorCore's cell of level at least `n`. -/
def Above (O : CT) (n : ℕ) : Prop := ∀ g u, 0 < O g u → g.1.2 = .tc ∧ n ≤ lv g u

theorem above_zero (n : ℕ) : Above 0 n := fun g u h => absurd h (Nat.lt_irrefl 0)
theorem above_add {O O' : CT} {n : ℕ} (h : Above O n) (h' : Above O' n) : Above (O + O') n := fun g u hg => by
  rw [Pi.add_apply, Finsupp.add_apply] at hg
  rcases Nat.eq_zero_or_pos (O g u) with e | e
  · rw [e, Nat.zero_add] at hg; exact h' g u hg
  · exact h g u e
theorem above_cell (c : Dev nD) (x : Cx) (N n : ℕ) (h : n ≤ lvx x) : Above (tallyAt (cell c x) () N) n := fun g u hg => by
  rw [tallyAt_apply] at hg
  by_cases e : g = cell c x ∧ u = ()
  · obtain ⟨rfl, rfl⟩ := e; exact ⟨rfl, by rw [lv_cell]; exact h⟩
  · rw [if_neg e] at hg; exact absurd hg (Nat.lt_irrefl 0)
theorem above_mono {O : CT} {n n' : ℕ} (h : Above O n) (hn : n' ≤ n) : Above O n' := fun g u hg => ⟨(h g u hg).1, hn.trans (h g u hg).2⟩

theorem above_sig (e : Fin 2) (c : Dev nD) {O : CT} {n : ℕ} (h : Above O n) (hn : n ≤ lvx (.inl e)) : Above (sigOwed e c O) n :=
  above_add (above_add (above_add (above_add h (above_cell _ _ _ _ hn)) (above_cell _ _ _ _ hn)) (above_cell _ _ _ _ hn)) (above_cell _ _ _ _ hn)

theorem above_owing (c : Dev nD) : ∀ m, m ≤ 16 → Above (owing c m) (18 - m)
  | 0, _ => above_sig 1 c (above_zero _) (by decide)
  | m + 1, h => by
    have hl : 18 - (m + 1) ≤ 2 + (4 * (slotK m).val + (slotG m).val) := by
      show _ ≤ 2 + (4 * (((15 - m) / 4) % 4) + ((15 - m) % 4) % 4)
      omega
    exact above_add (above_add (above_mono (above_owing c m (by omega)) (by omega)) (above_cell _ _ _ _ hl)) (above_cell _ _ _ _ hl)

theorem above_O₀ (c : Dev nD) : Above (O₀ c) 1 := above_sig 0 c (above_mono (above_owing c 16 le_rfl) (by omega)) (by decide)

theorem mayWait_of {c : Dev nD} {s : SemLoc sig} {O : CT} {n : ℕ} (h : Above O n) (hs : lv ((c : Thread nD τ), s) () < n) :
    (levAts L lv : sProp 𝕄) ⊢ MayWait (c : Thread nD τ) s () O :=
  MayOwe.of_cut (L := L) (lev := lv) (lv ((c : Thread nD τ), s) ())
    (fun p hp => by rw [Finset.mem_singleton.mp hp]; exact (show L ((c : Thread nD τ), s) = {()} from if_pos rfl) ▸ Finset.mem_singleton_self _)
    (fun g u hg => (show L g = {()} from if_pos (h g u hg).1) ▸ Finset.mem_singleton_self _)
    (fun p hp => by rw [Finset.mem_singleton.mp hp])
    (fun g u hg => lt_of_lt_of_le hs (h g u hg).2)

theorem mayWait_cell (c : Dev nD) (x : Cx) (m : ℕ) (hm : m ≤ 16) (h : lvx x < 18 - m) :
    (levAts L lv : sProp 𝕄) ⊢ MayWait (c : Thread nD τ) (csem x) () (owing c m) :=
  mayWait_of (above_owing c m hm) (by rw [show lv ((c : Thread nD τ), csem x) () = lvx x from lv_cell c x]; exact h)

theorem mayWait_stage (c : Dev nD) (q : DmaSem sig) (hq : ∀ x, csem x ≠ .dma q) (O : CT) (hO : O = O₀ c ∨ O = 0) :
    (levAts L lv : sProp 𝕄) ⊢ MayWait (c : Thread nD τ) (.dma q) () O := by
  rcases hO with rfl | rfl
  · refine mayWait_of (above_O₀ c) ?_
    unfold lv; rw [dec_none hq]; exact Nat.one_pos
  · rw [MayWait_zero]; iintro -; iempintro

/-! ## The rules -/

/-- A device's debt, whatever it has waited for. -/
def Owes (c : Dev nD) (O : CT) : sProp 𝕄 := iprop(∃ W, owes (c : Thread nD τ) O W)

def kcell (cx : Dev nD × Cx) : GSem nD τ sig := cell cx.1 cx.2

/-- The invariants of all cells, and that each is at round 0. -/
def records (I : Ins F) (K : Dev nD × Cx → ℕ) : sProp 𝕄 :=
  iprop((bigSep Finset.univ fun cx : Dev nD × Cx => cellInv ER (sched I) (K cx) (kcell cx))
    ∗ bigSep Finset.univ fun cx : Dev nD × Cx => reached ER (kcell cx) 0)

instance records_persistent (I : Ins F) (K : Dev nD × Cx → ℕ) : BI.Persistent (records I K) := by unfold records; infer_instance

theorem records_inv (I : Ins F) (K : Dev nD × Cx → ℕ) (c : Dev nD) (x : Cx) : records I K ⊢ cellInv ER (sched I) (K (c, x)) (cell c x) := by
  have h := bigSep_elim (Φ := fun cx : Dev nD × Cx => cellInv ER (sched I) (K cx) (kcell cx)) (Finset.mem_univ (c, x))
  exact (BI.sep_and.trans BI.and_elimL).trans h
theorem records_reached (I : Ins F) (K : Dev nD × Cx → ℕ) (c : Dev nD) (x : Cx) : records I K ⊢ reached ER (cell c x) 0 := by
  have h := bigSep_elim (Φ := fun cx : Dev nD × Cx => (reached ER (kcell cx) 0 : sProp 𝕄)) (Finset.mem_univ (c, x))
  exact (BI.sep_and.trans BI.and_elimR).trans h

variable (I : Ins F) (K : Dev nD × Cx → ℕ)

/-- One signal of a barrier. -/
theorem wp_sig {c : Dev nD} {s : Sem sig} (e : Fin 2) (hs : barOf e = s) (j : Fin 4) (O : CT) (Q : PUnit → sProp 𝕄) :
    iprop(records I K ∗ Owes c (O + tallyAt (cell (peer j c) (.inl e)) () 1) ∗ dutyTok ER (cell (peer j c) (.inl e)) 0 j
        ∗ payOf I (peer j c) (some (.inl e)) j)
      ⊢ (Owes c O -∗ Q ⟨⟩) -∗ WP c (semSignalWord (peer j c) s 1#32) Q := by
  subst hs
  unfold Owes
  iintro ⟨#HR, ⟨%W, HO⟩, Ht, Hp⟩ Hk
  unfold semSignalWord
  iapply (Rounds.wp_signal 𝒱₀ ER (sched I) (c : Thread nD τ) none (dst := (peer j c : Thread nD τ)) (sem := barOf e) (r := 0) (d := j)
    (κ := K (peer j c, .inl e)) (by rw [show ((peer j c : Thread nD τ), SemLoc.reg (barOf e)) = cell (peer j c) (.inl e) from rfl, duties_cell]; exact Finset.mem_univ _)
    ((amount_cell I (peer j c) (.inl e) j).trans rfl) () O rfl) $$ [HO Ht Hp]
  · isplitr; · iapply (records_inv I K (peer j c) (.inl e)); iexact HR
    isplitl [HO]; · iexact HO
    isplitl [Ht]; · iexact Ht
    isplitl [Hp]; · iapply (show payOf I (peer j c) (some (.inl e)) j ⊢ (sched I).payload ((peer j c : Thread nD τ), SemLoc.reg (barOf e)) 0 j from Entails.of_eq (payload_cell I (peer j c) (.inl e) j).symm); iexact Hp
    iapply (records_reached I K (peer j c) (.inl e)); iexact HR
  iintro HO
  iapply wp_done
  iapply Hk
  iexists W; iexact HO

/-- The wait of a barrier. -/
theorem wp_bar {c : Dev nD} {s : Sem sig} (e : Fin 2) (hs : barOf e = s) (O : CT) (hO : (levAts L lv : sProp 𝕄) ⊢ MayWait (c : Thread nD τ) (csem (.inl e)) () O)
    (Q : PUnit → sProp 𝕄) :
    iprop(records I K ∗ levAts L lv ∗ cred (tallyAt (cell c (.inl e)) () 4) ∗ Owes c O ∗ atPos ER (cell c (.inl e)) 0 ∅ 0)
      ⊢ (Owes c O ∗ semVal (cell c (.inl e)) 0 ∗ (bigSep Finset.univ fun d => payOf I c (some (.inl e)) d) -∗ Q ⟨⟩)
      -∗ WP c (semWaitWord s 4#32) Q := by
  subst hs
  unfold Owes
  iintro ⟨#HR, #Hlev, Hc, ⟨%W, HO⟩, Hat⟩ Hk
  unfold semWaitWord
  iapply (Rounds.wp_wait_rest_token 𝒱₀ ER (sched I) (c : Thread nD τ) none (sm := .reg (barOf e)) (κ := K (c, .inl e))
      (wpE_semWait_eq 𝒱₀ (c : Thread nD τ) none Set.univ) (Set.mem_univ _) () (O := O) (W := W) (R := 0) (m := 0) (T := ∅)
      (by rw [show ((c : Thread nD τ), SemLoc.reg (barOf e)) = cell c (.inl e) from rfl, expect_bar]; rfl)) $$ [Hc HO Hat]
  · isplitr; · iapply (records_inv I K c (.inl e)); iexact HR
    isplitl [Hc]; · iexact Hc
    isplitl [HO]; · iexact HO
    isplitr; · iapply hO; iexact Hlev
    iexact Hat
  iintro ⟨HO, Hat, -, Hpay⟩
  ihave Hp := (show bigSep ((sched I).duties ((c : Thread nD τ), SemLoc.reg (barOf e)) 0 \ ∅) (fun d => (sched I).payload ((c : Thread nD τ), SemLoc.reg (barOf e)) 0 d)
      ⊢ bigSep Finset.univ fun d => payOf I c (some (.inl e)) d from Entails.of_eq (rest_bar I c e)) $$ Hpay
  imod (Rounds.cell_close ER (sched I) (g := cell c (.inl e)) (Set.mem_univ (K (c, .inl e))) (fun h => h) (R := 0 + 1) (duties_later I _)) $$ [Hat] with Hz
  · isplitr; · iapply (records_inv I K c (.inl e)); iexact HR
    iexact Hat
  iapply wp_done
  iapply Hk
  isplitl [HO]; · iexists _; iexact HO
  isplitl [Hz]; · iexact Hz
  iexact Hp

/-- The wait for one half of one transfer. -/
theorem wp_wt {c : Dev nD} (s : Fin 4 × Fin 4) (κ : Fin 4) {sm : DmaSem sig} (hsm : csem (.inr (s, κ)) = .dma sm)
    {sp sp' : Space} {sh : Shape} {el : EltTy} {src : Memref sig .tc sp sh el} {dst : Memref sig .tc sp' sh el}
    {h1 : src.view.WordExact} {h2 : dst.view.WordExact} (hN : dst.view.dmaCredit = amt κ) (O : CT)
    (hO : (levAts L lv : sProp 𝕄) ⊢ MayWait (c : Thread nD τ) (csem (.inr (s, κ))) () O) (Q : PUnit → sProp 𝕄) :
    iprop(records I K ∗ levAts L lv ∗ cred (tallyAt (cell c (.inr (s, κ))) () (amt κ)) ∗ Owes c O ∗ atPos ER (cell c (.inr (s, κ))) 0 ∅ 0)
      ⊢ (Owes c O ∗ semVal (cell c (.inr (s, κ))) 0 ∗ payOf I c (some (.inr (s, κ))) 0 -∗ Q ⟨⟩)
      -∗ WP c (Prog.lift (.waitDma2 sm src dst h1 h2)) Q := by
  have hc : ((c : Thread nD τ), SemLoc.dma sm) = cell c (.inr (s, κ)) := by rw [← hsm]
  unfold Owes
  rw [← hc, ← hN]
  rw [hsm] at hO
  iintro ⟨#HR, #Hlev, Hc, ⟨%W, HO⟩, Hat⟩ Hk
  have hI : records I K ⊢ cellInv ER (sched I) (K (c, .inr (s, κ))) ((c : Thread nD τ), SemLoc.dma sm) := hc ▸ records_inv I K c (.inr (s, κ))
  iapply (Rounds.wp_wait_rest_token 𝒱₀ ER (sched I) (c : Thread nD τ) none (sm := .dma sm) (κ := K (c, .inr (s, κ)))
      (wpE_waitDma2_eq 𝒱₀ (c : Thread nD τ) none Set.univ) (Set.mem_univ _) () (O := O) (W := W) (R := 0) (m := 0) (T := ∅)
      (by rw [hc, expect_dma, Nat.zero_add, hN])) $$ [Hc HO Hat]
  · isplitr; · iapply hI; iexact HR
    isplitl [Hc]; · iexact Hc
    isplitl [HO]; · iexact HO
    isplitr; · iapply hO; iexact Hlev
    iexact Hat
  iintro ⟨HO, Hat, -, Hpay⟩
  ihave Hp := (Entails.of_eq (show _ = payOf I c (some (.inr (s, κ))) 0 by rw [hc]; exact rest_dma I c s κ)) $$ Hpay
  imod (Rounds.cell_close ER (sched I) (g := ((c : Thread nD τ), SemLoc.dma sm)) (Set.mem_univ (K (c, .inr (s, κ)))) (fun h => h) (R := 0 + 1) (duties_later I _)) $$ [Hat] with Hz
  · isplitr; · iapply hI; iexact HR
    iexact Hat
  iapply wp_done
  iapply Hk
  isplitl [HO]; · iexists _; iexact HO
  isplitl [Hz]; · iexact Hz
  iexact Hp

/-! ## A start -/

theorem set_slabO (g k : Fin 4) : (slabO mRO g k).view.set = (rO g k).set := by
  unfold slabO; rw [View.set_reshape, View.set_slice_whole]
theorem set_slabO' (g k : Fin 4) : (slabO mSO g k).view.set = (rO g k).set := by
  unfold slabO; rw [View.set_reshape, View.set_slice_whole]
theorem set_slabS (g k : Fin 4) : (slabS mRS g k).view.set = (rS g k).set := by
  unfold slabS; rw [View.set_reshape, View.set_slice_whole]
theorem set_slabS' (g k : Fin 4) : (slabS mSS g k).view.set = (rS g k).set := by
  unfold slabS; rw [View.set_reshape, View.set_slice_whole]

omit [FloatOps F] in
/-- Slab `(g, k)` of the sent outputs, written over the received ones. -/
theorem land_O (g k : Fin 4) (p : Dev nD) (fd fs : cc0_scratch3.ty.Contents (Elt F)) :
    (pB p cc0_scratch3 (slabO mRO g k).view.set ((slabO mRO g k).view.write (Elt F) fd ((slabO mSO g k).view.read (Elt F) fs) Finset.univ) : sProp 𝕄)
      ⊢ pB p cc0_scratch3 (rO g k).set fs := by
  rw [← set_slabO]
  refine Entails.of_eq (pointsTo_congr fun i hi => ?_)
  obtain ⟨y, -, rfl⟩ := Finset.mem_map.mp hi
  rw [View.write_emb_of_mem (h := Finset.mem_univ _)]
  rfl

omit [FloatOps F] in
/-- The same of the statistics. -/
theorem land_S (g k : Fin 4) (p : Dev nD) (fd fs : cc0_scratch5.ty.Contents (Elt F)) :
    (pB p cc0_scratch5 (slabS mRS g k).view.set ((slabS mRS g k).view.write (Elt F) fd ((slabS mSS g k).view.read (Elt F) fs) Finset.univ) : sProp 𝕄)
      ⊢ pB p cc0_scratch5 (rS g k).set fs := by
  rw [← set_slabS]
  refine Entails.of_eq (pointsTo_congr fun i hi => ?_)
  obtain ⟨y, -, rfl⟩ := Finset.mem_map.mp hi
  rw [View.write_emb_of_mem (h := Finset.mem_univ _)]
  rfl

theorem amt_O (g k κ : Fin 4) (h : κ.val < 2) : (slabO mRO g k).view.dmaCredit = amt κ := (if_pos h).symm
theorem amt_O' (g k κ : Fin 4) (h : κ.val < 2) : (slabO mSO g k).view.dmaCredit = amt κ := (if_pos h).symm
theorem amt_S (g k κ : Fin 4) (h : ¬κ.val < 2) : (slabS mRS g k).view.dmaCredit = amt κ := (if_neg h).symm
theorem amt_S' (g k κ : Fin 4) (h : ¬κ.val < 2) : (slabS mSS g k).view.dmaCredit = amt κ := (if_neg h).symm

abbrev cx (k g κ : Fin 4) : Cx := .inr ((k, g), κ)

/-- The outputs' transfer of slab `(g, k)`. -/
theorem wp_sendO (c : Dev nD) (g k : Fin 4) {hs : (slabO mSO g k).view.WordExact} {hd : (slabO mRO g k).view.WordExact}
    {hsc : (slabO mRO g k).view.ref.isScScratch = false}
    {ht : DmaTarget.Typed .vmem (.dma (semAt cc0_scratch7 g k)) (.remote (peer (mk g k) c : Thread nD τ) (slabO mRO g k) (.dma (semAt cc0_scratch6 g k)) hsc)}
    (O : CT) (Q : PUnit → sProp 𝕄) :
    iprop(records I K ∗ Owes c (O + tallyAt (cell (peer (mk g k) c) (cx k g 1)) () NO) ∗ fullSO I c g k ∗ anyRO (peer (mk g k) c) g k
        ∗ dutyTok ER (cell c (cx k g 0)) 0 0 ∗ dutyTok ER (cell (peer (mk g k) c) (cx k g 1)) 0 0)
      ⊢ (Owes c O ∗ cred (tallyAt (cell c (cx k g 0)) () NO) -∗ Q ⟨⟩)
      -∗ WP c (Prog.lift (.enqueueDma (slabO mSO g k) (.remote (peer (mk g k) c : Thread nD τ) (slabO mRO g k) (.dma (semAt cc0_scratch6 g k)) hsc)
          (.dma (semAt cc0_scratch7 g k)) hs hd ht)) Q := by
  have hp1 : ((slabO mSO g k).view.loc (c : Thread nD τ) ↦[(slabO mSO g k).view.set]{fullShare} (cSO I c) : sProp 𝕄)
      ⊢ (sched I).payload ((c : Thread nD τ), .dma (semAt cc0_scratch6 g k)) 0 0 := by
    rw [set_slabO']; exact Entails.of_eq (payload_cell I c (cx k g 0) 0).symm
  have hp2 : ∀ fn : cc0_scratch3.ty.Contents (Elt F), ((slabO mRO g k).view.loc (peer (mk g k) c : Thread nD τ) ↦[(slabO mRO g k).view.set]{fullShare}
        ((slabO mRO g k).view.write (Elt F) fn ((slabO mSO g k).view.read (Elt F) (cSO I c)) Finset.univ) : sProp 𝕄)
      ⊢ (sched I).payload ((peer (mk g k) c : Thread nD τ), .dma (semAt cc0_scratch7 g k)) 0 0 := fun fn =>
    (land_O g k (peer (mk g k) c) fn (cSO I c)).trans (Entails.of_eq (by
      refine Eq.trans ?_ (payload_cell I (peer (mk g k) c) (cx k g 1) 0).symm
      show _ = fullRO I (peer (mk g k) c) g k
      unfold fullRO; rw [peer_peer]))
  have hd1 : (0 : Fin 4) ∈ (sched I).duties ((c : Thread nD τ), .dma (semAt cc0_scratch6 g k)) 0 :=
    (duties_cell I c (cx k g 0)).symm ▸ Finset.mem_singleton_self _
  have hd2 : (0 : Fin 4) ∈ (sched I).duties ((peer (mk g k) c : Thread nD τ), .dma (semAt cc0_scratch7 g k)) 0 :=
    (duties_cell I (peer (mk g k) c) (cx k g 1)).symm ▸ Finset.mem_singleton_self _
  have hk1 : (sched I).amount ((c : Thread nD τ), .dma (semAt cc0_scratch6 g k)) 0 0 = NO := (amount_cell I c (cx k g 0) 0).trans (show amt 0 = NO from if_pos (by decide))
  have hk2 : (sched I).amount ((peer (mk g k) c : Thread nD τ), .dma (semAt cc0_scratch7 g k)) 0 0 = NO :=
    (amount_cell I (peer (mk g k) c) (cx k g 1) 0).trans (show amt 1 = NO from if_pos (by decide))
  unfold Owes fullSO anyRO
  iintro ⟨#HR, ⟨%W, HO⟩, Hs, ⟨%fn, Hd⟩, Ht, Ht'⟩ Hk
  iapply (Rounds.wp_send_pointsTo 𝒱₀ ER (sched I) (c : Thread nD τ) none (c' := (peer (mk g k) c : Thread nD τ)) (κ₁ := K (c, cx k g 0)) (κ₂ := K (peer (mk g k) c, cx k g 1))
      (src := slabO mSO g k) (dst := slabO mRO g k) (q := fullShare) (fs := cSO I c)
      (r₁ := 0) (r₂ := 0) (d₁ := 0) (d₂ := 0) (fd := fn) hd1 hd2 () () NO rfl hk1 hk2 O rfl (W := W) hp1 (hp2 fn)) $$ [HO Hs Hd Ht Ht']
  · isplitr; · iapply (records_inv I K c (cx k g 0)); iexact HR
    isplitr; · iapply (records_inv I K (peer (mk g k) c) (cx k g 1)); iexact HR
    isplitl [Hs]; · rw [set_slabO']; iexact Hs
    isplitl [Hd]; · rw [set_slabO]; iexact Hd
    isplitl [HO]; · iexact HO
    isplitl [Ht]; · iexact Ht
    isplitr; · iapply (records_reached I K c (cx k g 0)); iexact HR
    isplitl [Ht']; · iexact Ht'
    iapply (records_reached I K (peer (mk g k) c) (cx k g 1)); iexact HR
  iintro ⟨Hc, HO⟩
  iapply wp_done
  iapply Hk
  isplitl [HO]; · iexists W; iexact HO
  iexact Hc

/-- The statistics' transfer of slab `(g, k)`. -/
theorem wp_sendS (c : Dev nD) (g k : Fin 4) {hs : (slabS mSS g k).view.WordExact} {hd : (slabS mRS g k).view.WordExact}
    {hsc : (slabS mRS g k).view.ref.isScScratch = false}
    {ht : DmaTarget.Typed .vmem (.dma (semAt cc0_scratch9 g k)) (.remote (peer (mk g k) c : Thread nD τ) (slabS mRS g k) (.dma (semAt cc0_scratch8 g k)) hsc)}
    (O : CT) (Q : PUnit → sProp 𝕄) :
    iprop(records I K ∗ Owes c (O + tallyAt (cell (peer (mk g k) c) (cx k g 3)) () NS) ∗ fullSS I c g k ∗ anyRS (peer (mk g k) c) g k
        ∗ dutyTok ER (cell c (cx k g 2)) 0 0 ∗ dutyTok ER (cell (peer (mk g k) c) (cx k g 3)) 0 0)
      ⊢ (Owes c O ∗ cred (tallyAt (cell c (cx k g 2)) () NS) -∗ Q ⟨⟩)
      -∗ WP c (Prog.lift (.enqueueDma (slabS mSS g k) (.remote (peer (mk g k) c : Thread nD τ) (slabS mRS g k) (.dma (semAt cc0_scratch8 g k)) hsc)
          (.dma (semAt cc0_scratch9 g k)) hs hd ht)) Q := by
  have hp1 : ((slabS mSS g k).view.loc (c : Thread nD τ) ↦[(slabS mSS g k).view.set]{fullShare} (cSS I c) : sProp 𝕄)
      ⊢ (sched I).payload ((c : Thread nD τ), .dma (semAt cc0_scratch8 g k)) 0 0 := by
    rw [set_slabS']; exact Entails.of_eq (payload_cell I c (cx k g 2) 0).symm
  have hp2 : ∀ fn : cc0_scratch5.ty.Contents (Elt F), ((slabS mRS g k).view.loc (peer (mk g k) c : Thread nD τ) ↦[(slabS mRS g k).view.set]{fullShare}
        ((slabS mRS g k).view.write (Elt F) fn ((slabS mSS g k).view.read (Elt F) (cSS I c)) Finset.univ) : sProp 𝕄)
      ⊢ (sched I).payload ((peer (mk g k) c : Thread nD τ), .dma (semAt cc0_scratch9 g k)) 0 0 := fun fn =>
    (land_S g k (peer (mk g k) c) fn (cSS I c)).trans (Entails.of_eq (by
      refine Eq.trans ?_ (payload_cell I (peer (mk g k) c) (cx k g 3) 0).symm
      show _ = fullRS I (peer (mk g k) c) g k
      unfold fullRS; rw [peer_peer]))
  have hd1 : (0 : Fin 4) ∈ (sched I).duties ((c : Thread nD τ), .dma (semAt cc0_scratch8 g k)) 0 :=
    (duties_cell I c (cx k g 2)).symm ▸ Finset.mem_singleton_self _
  have hd2 : (0 : Fin 4) ∈ (sched I).duties ((peer (mk g k) c : Thread nD τ), .dma (semAt cc0_scratch9 g k)) 0 :=
    (duties_cell I (peer (mk g k) c) (cx k g 3)).symm ▸ Finset.mem_singleton_self _
  have hk1 : (sched I).amount ((c : Thread nD τ), .dma (semAt cc0_scratch8 g k)) 0 0 = NS := (amount_cell I c (cx k g 2) 0).trans (show amt 2 = NS from if_neg (by decide))
  have hk2 : (sched I).amount ((peer (mk g k) c : Thread nD τ), .dma (semAt cc0_scratch9 g k)) 0 0 = NS :=
    (amount_cell I (peer (mk g k) c) (cx k g 3) 0).trans (show amt 3 = NS from if_neg (by decide))
  unfold Owes fullSS anyRS
  iintro ⟨#HR, ⟨%W, HO⟩, Hs, ⟨%fn, Hd⟩, Ht, Ht'⟩ Hk
  iapply (Rounds.wp_send_pointsTo 𝒱₀ ER (sched I) (c : Thread nD τ) none (c' := (peer (mk g k) c : Thread nD τ)) (κ₁ := K (c, cx k g 2)) (κ₂ := K (peer (mk g k) c, cx k g 3))
      (src := slabS mSS g k) (dst := slabS mRS g k) (q := fullShare) (fs := cSS I c)
      (r₁ := 0) (r₂ := 0) (d₁ := 0) (d₂ := 0) (fd := fn) hd1 hd2 () () NS rfl hk1 hk2 O rfl (W := W) hp1 (hp2 fn)) $$ [HO Hs Hd Ht Ht']
  · isplitr; · iapply (records_inv I K c (cx k g 2)); iexact HR
    isplitr; · iapply (records_inv I K (peer (mk g k) c) (cx k g 3)); iexact HR
    isplitl [Hs]; · rw [set_slabS']; iexact Hs
    isplitl [Hd]; · rw [set_slabS]; iexact Hd
    isplitl [HO]; · iexact HO
    isplitl [Ht]; · iexact Ht
    isplitr; · iapply (records_reached I K c (cx k g 2)); iexact HR
    isplitl [Ht']; · iexact Ht'
    iapply (records_reached I K (peer (mk g k) c) (cx k g 3)); iexact HR
  iintro ⟨Hc, HO⟩
  iapply wp_done
  iapply Hk
  isplitl [HO]; · iexists W; iexact HO
  iexact Hc

end Cert.KernelIdeal.Att

end
-- ==== Proof.KernelIdeal.Body.lean ====
/- The body under the protocol: the rules for its phases, and the whole. -/
module

public import proofs.«01_k».proof.Proof.KernelIdeal.Protocol

@[expose] public section

set_option synthInstance.maxSize 4096

noncomputable section

namespace Cert.KernelIdeal.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem bigSep4 (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide), bigSep_insert (by decide), bigSep_singleton]
  rfl

omit [FloatOps F] in
/-- Over steps and groups by mask, and by group. -/
theorem bigSep_mask (Φ : Fin 4 → Fin 4 → sProp 𝕄) :
    (bigSep Finset.univ fun d => bigSep Finset.univ fun k => Φ (d - k) k) = bigSep Finset.univ fun k => bigSep Finset.univ fun g => Φ g k := by
  rw [BI.bigSep_univ_comm]
  refine bigSep_congr fun k _ => ?_
  exact (bigSep_univ_equiv (Equiv.subRight k) (fun g => Φ g k)).symm

/-! ## The resources of one transfer -/

/-- What the credit of a cell's wait comes to at launch: send cells' is made when the transfer starts. -/
def credX : Cx → ℕ
  | .inl _ => 4
  | .inr (_, κ) => if κ.val % 2 = 1 then amt κ else 0

/-- Who pays the cell `cx k g κ` of whom. -/
def payee (c : Dev nD) (k g κ : Fin 4) : Dev nD := if κ.val % 2 = 1 then peer (mk g k) c else c

def A4 (c : Dev nD) (k g : Fin 4) : sProp 𝕄 := bigSep Finset.univ fun κ : Fin 4 => atPos ER (cell c (cx k g κ)) 0 ∅ 0
def C4 (c : Dev nD) (k g : Fin 4) : sProp 𝕄 := bigSep Finset.univ fun κ : Fin 4 => cred (tallyAt (cell c (cx k g κ)) () (credX (cx k g κ)))
def T4 (c : Dev nD) (k g : Fin 4) : sProp 𝕄 := bigSep Finset.univ fun κ : Fin 4 => dutyTok ER (cell (payee c k g κ) (cx k g κ)) 0 0
def Z4 (c : Dev nD) (k g : Fin 4) : sProp 𝕄 := bigSep Finset.univ fun κ : Fin 4 => semVal (cell c (cx k g κ)) 0

/-- The slabs a device's peer receives in, and a device's own. -/
def anyR (c : Dev nD) (k g : Fin 4) : sProp 𝕄 := iprop(anyRO (peer (mk g k) c) g k ∗ anyRS (peer (mk g k) c) g k)
def ownR (c : Dev nD) (k g : Fin 4) : sProp 𝕄 := iprop(anyRO c g k ∗ anyRS c g k)
def anyS (c : Dev nD) (k g : Fin 4) : sProp 𝕄 := iprop(anySO c g k ∗ anySS c g k)

/-- The ghosts of a transfer before it starts; with its slabs; in flight; done. -/
def T (c : Dev nD) (k g : Fin 4) : sProp 𝕄 := iprop(T4 c k g ∗ A4 c k g ∗ C4 c k g)
def U (c : Dev nD) (k g : Fin 4) : sProp 𝕄 := iprop(anyS c k g ∗ T c k g ∗ anyR c k g)
def In (c : Dev nD) (k g : Fin 4) : sProp 𝕄 :=
  iprop(A4 c k g ∗ C4 c k g ∗ cred (tallyAt (cell c (cx k g 0)) () NO) ∗ cred (tallyAt (cell c (cx k g 2)) () NS))
def D (c : Dev nD) (k g : Fin 4) : sProp 𝕄 := iprop(anyS c k g ∗ ownR c k g ∗ Z4 c k g)

variable (I : Ins F) (K : Dev nD × Cx → ℕ)

/-! ## Signals, starts, waits -/

theorem signalP_spec (c : Dev nD) {s : Sem sig} (e : Fin 2) (hs : barOf e = s) (O : CT) (Q : PUnit → sProp 𝕄) :
    iprop(records I K ∗ Owes c (sigOwed e c O) ∗ (bigSep Finset.univ fun d : Fin 4 => dutyTok ER (cell (peer d c) (.inl e)) 0 d)
        ∗ (bigSep Finset.univ fun d : Fin 4 => payOf I (peer d c) (some (.inl e)) d))
      ⊢ (Owes c O -∗ Q ⟨⟩) -∗ WP c (signalP c s) Q := by
  rw [bigSep4, bigSep4]
  unfold sigOwed signalP
  simp only [wp_bind]
  iintro ⟨#HR, HO, ⟨Ht0, Ht1, Ht2, Ht3⟩, Hp0, Hp1, Hp2, Hp3⟩ Hk
  iapply (wp_sig I K e hs 0 _) $$ [HO Ht0 Hp0]
  · isplitr; · iexact HR
    isplitl [HO]; · iexact HO
    isplitl [Ht0] <;> iassumption
  iintro HO
  iapply (wp_sig I K e hs 1 _) $$ [HO Ht1 Hp1]
  · isplitr; · iexact HR
    isplitl [HO]; · iexact HO
    isplitl [Ht1] <;> iassumption
  iintro HO
  iapply (wp_sig I K e hs 2 _) $$ [HO Ht2 Hp2]
  · isplitr; · iexact HR
    isplitl [HO]; · iexact HO
    isplitl [Ht2] <;> iassumption
  iintro HO
  iapply (wp_sig I K e hs 3 _) $$ [HO Ht3 Hp3]
  · isplitr; · iexact HR
    isplitl [HO]; · iexact HO
    isplitl [Ht3] <;> iassumption
  iintro HO
  iapply Hk; iexact HO

theorem startP_spec (c : Dev nD) (g k : Fin 4) (m : ℕ) (hk : slotK m = k) (hg : slotG m = g) (Q : PUnit → sProp 𝕄) :
    iprop(records I K ∗ Owes c (owing c (m + 1)) ∗ fullSO I c g k ∗ fullSS I c g k ∗ T c k g ∗ anyR c k g)
      ⊢ (Owes c (owing c m) ∗ In c k g -∗ Q ⟨⟩) -∗ WP c (startP c g k) Q := by
  subst hk; subst hg
  rw [show owing c (m + 1) = owing c m + tallyAt (cell (peer (mk (slotG m) (slotK m)) c) (cx (slotK m) (slotG m) 3)) () NS
      + tallyAt (cell (peer (mk (slotG m) (slotK m)) c) (cx (slotK m) (slotG m) 1)) () NO from rfl]
  generalize slotK m = k
  generalize slotG m = g
  unfold T T4 In anyR
  rw [bigSep4]
  unfold startP
  simp only [wp_bind]
  iintro ⟨#HR, HO, HSO, HSS, ⟨⟨Ht0, Ht1, Ht2, Ht3⟩, HA, HC⟩, HRO, HRS⟩ Hk
  iapply (wp_sendO I K c g k _) $$ [HO HSO HRO Ht0 Ht1]
  · isplitr; · iexact HR
    isplitl [HO]; · iexact HO
    isplitl [HSO]; · iexact HSO
    isplitl [HRO]; · iexact HRO
    isplitl [Ht0]; · iexact Ht0
    iexact Ht1
  iintro ⟨HO, Hc0⟩
  iapply (wp_sendS I K c g k _) $$ [HO HSS HRS Ht2 Ht3]
  · isplitr; · iexact HR
    isplitl [HO]; · iexact HO
    isplitl [HSS]; · iexact HSS
    isplitl [HRS]; · iexact HRS
    isplitl [Ht2]; · iexact Ht2
    iexact Ht3
  iintro ⟨HO, Hc2⟩
  iapply Hk
  isplitl [HO]; · iexact HO
  isplitl [HA]; · iexact HA
  isplitl [HC]; · iexact HC
  isplitl [Hc0] <;> iassumption

theorem lvx_le (k g κ : Fin 4) (m : ℕ) (h : 2 + (4 * k.val + g.val) < 18 - m) : lvx (cx k g κ) < 18 - m := by
  show (if κ.val % 2 = 1 then 2 + (4 * k.val + g.val) else 0) < 18 - m
  split <;> omega

theorem waitP_spec (c : Dev nD) (g k : Fin 4) (m : ℕ) (hm : m ≤ 16) (h : 2 + (4 * k.val + g.val) < 18 - m) (Q : PUnit → sProp 𝕄) :
    iprop(records I K ∗ levAts L lv ∗ Owes c (owing c m) ∗ In c k g)
      ⊢ (Owes c (owing c m) ∗ Z4 c k g ∗ fullSO I c g k ∗ fullSS I c g k ∗ fullRO I c g k ∗ fullRS I c g k -∗ Q ⟨⟩)
      -∗ WP c (waitP g k) Q := by
  have hw := fun κ => mayWait_cell (F := F) c (cx k g κ) m hm (lvx_le k g κ m h)
  unfold In A4 C4 Z4
  rw [bigSep4, bigSep4, bigSep4]
  unfold waitP
  simp only [wp_bind]
  iintro ⟨#HR, #Hlev, HO, ⟨Ha0, Ha1, Ha2, Ha3⟩, ⟨-, Hc1, -, Hc3⟩, Hc0, Hc2⟩ Hk
  iapply (wp_wt I K (k, g) 0 rfl (amt_O' g k 0 (by decide)) _ (hw 0)) $$ [HO Hc0 Ha0]
  · isplitr; · iexact HR
    isplitr; · iexact Hlev
    isplitl [Hc0]; · iexact Hc0
    isplitl [HO]; · iexact HO
    iexact Ha0
  iintro ⟨HO, Hz0, HSO⟩
  ihave HSO := (show payOf I c (some (.inr ((k, g), 0))) 0 ⊢ fullSO I c g k from Entails.refl _) $$ HSO
  iapply (wp_wt I K (k, g) 1 rfl (amt_O g k 1 (by decide)) _ (hw 1)) $$ [HO Hc1 Ha1]
  · isplitr; · iexact HR
    isplitr; · iexact Hlev
    isplitl [Hc1]; · iexact Hc1
    isplitl [HO]; · iexact HO
    iexact Ha1
  iintro ⟨HO, Hz1, HRO⟩
  ihave HRO := (show payOf I c (some (.inr ((k, g), 1))) 0 ⊢ fullRO I c g k from Entails.refl _) $$ HRO
  iapply (wp_wt I K (k, g) 2 rfl (amt_S' g k 2 (by decide)) _ (hw 2)) $$ [HO Hc2 Ha2]
  · isplitr; · iexact HR
    isplitr; · iexact Hlev
    isplitl [Hc2]; · iexact Hc2
    isplitl [HO]; · iexact HO
    iexact Ha2
  iintro ⟨HO, Hz2, HSS⟩
  ihave HSS := (show payOf I c (some (.inr ((k, g), 2))) 0 ⊢ fullSS I c g k from Entails.refl _) $$ HSS
  iapply (wp_wt I K (k, g) 3 rfl (amt_S g k 3 (by decide)) _ (hw 3)) $$ [HO Hc3 Ha3]
  · isplitr; · iexact HR
    isplitr; · iexact Hlev
    isplitl [Hc3]; · iexact Hc3
    isplitl [HO]; · iexact HO
    iexact Ha3
  iintro ⟨HO, Hz3, HRS⟩
  ihave HRS := (show payOf I c (some (.inr ((k, g), 3))) 0 ⊢ fullRS I c g k from Entails.refl _) $$ HRS
  iapply Hk
  isplitl [HO]; · iexact HO
  isplitl [Hz0 Hz1 Hz2 Hz3]
  · isplitl [Hz0]; · iexact Hz0
    isplitl [Hz1]; · iexact Hz1
    isplitl [Hz2] <;> iassumption
  isplitl [HSO]; · iexact HSO
  isplitl [HSS]; · iexact HSS
  isplitl [HRO]; · iexact HRO
  iexact HRS

/-! ## Steps -/

omit [FloatOps F] in
theorem done_intro (c : Dev nD) (k g : Fin 4) (f : cc0_scratch2.ty.Contents (Elt F)) (f' : cc0_scratch4.ty.Contents (Elt F))
    (h : cc0_scratch3.ty.Contents (Elt F)) (h' : cc0_scratch5.ty.Contents (Elt F)) :
    iprop(Z4 c k g ∗ pB c cc0_scratch2 (rO g k).set f ∗ pB c cc0_scratch4 (rS g k).set f' ∗ pB c cc0_scratch3 (rO g k).set h
      ∗ pB c cc0_scratch5 (rS g k).set h') ⊢ (D c k g : sProp 𝕄) := by
  unfold D anyS ownR anySO anySS anyRO anyRS
  iintro ⟨HZ, H1, H2, H3, H4⟩
  isplitl [H1 H2]
  · isplitl [H1]
    · iexists f; iexact H1
    · iexists f'; iexact H2
  isplitl [H3 H4]
  · isplitl [H3]
    · iexists h; iexact H3
    · iexists h'; iexact H4
  iexact HZ

theorem stepP_spec (c : Dev nD) (g k k' : Fin 4) (m : ℕ) (n : Fin 4 → ℕ) (hn : n g = k.val) (hk : k'.val = k.val + 1)
    (hm : m + 1 ≤ 16) (h : 2 + (4 * k.val + g.val) < 18 - (m + 1)) (hK : slotK m = k') (hG : slotG m = g) (Q : PUnit → sProp 𝕄) :
    iprop(records I K ∗ levAts L lv ∗ Owes c (owing c (m + 1)) ∗ AOm I c n ∗ ASm I c n ∗ In c k g ∗ U c k' g)
      ⊢ (Owes c (owing c m) ∗ AOm I c (Function.update n g (k.val + 1)) ∗ ASm I c (Function.update n g (k.val + 1)) ∗ D c k g ∗ In c k' g -∗ Q ⟨⟩)
      -∗ WP c (stepP c g k k') Q := by
  unfold stepP U anyS
  simp only [wp_bind]
  iintro ⟨#HR, #Hlev, HO, HAO, HAS, HI, ⟨HSO', HSS'⟩, HT, HRR⟩ Hk
  iapply (waitP_spec I K c g k (m + 1) hm h) $$ [HO HI]
  · isplitr; · iexact HR
    isplitr; · iexact Hlev
    isplitl [HO]; · iexact HO
    iexact HI
  iintro ⟨HO, HZ, HSO, HSS, HRO, HRS⟩
  iapply (mergeP_spec I c g k n hn) $$ [HRO HRS HAO HAS]
  · isplitl [HRO]; · iexact HRO
    isplitl [HRS]; · iexact HRS
    isplitl [HAO] <;> iassumption
  iintro ⟨HRO, HRS, HAO, HAS⟩
  simp only [wp_bind]
  iapply (accP_spec I c g k n) $$ [HAO HAS]
  · isplitl [HAO] <;> iassumption
  iintro ⟨HAO, HAS⟩
  iapply (nextP_spec I c g k k' hk) $$ [HSO' HSS']
  · isplitl [HSO'] <;> iassumption
  iintro ⟨HSO', HSS'⟩
  iapply (startP_spec I K c g k' m hK hG) $$ [HO HSO' HSS' HT HRR]
  · isplitr; · iexact HR
    isplitl [HO]; · iexact HO
    isplitl [HSO']; · iexact HSO'
    isplitl [HSS']; · iexact HSS'
    isplitl [HT] <;> iassumption
  iintro ⟨HO, HI⟩
  iapply Hk
  isplitl [HO]; · iexact HO
  isplitl [HAO]; · iexact HAO
  isplitl [HAS]; · iexact HAS
  isplitl [HZ HSO HSS HRO HRS]
  · unfold fullSO fullSS fullRO fullRS
    iapply (done_intro c k g)
    isplitl [HZ]; · iexact HZ
    isplitl [HSO]; · iexact HSO
    isplitl [HSS]; · iexact HSS
    isplitl [HRO]; · iexact HRO
    iexact HRS
  iexact HI

theorem lastP_spec (c : Dev nD) (g : Fin 4) (n : Fin 4 → ℕ) (hn : n g = 3) (Q : PUnit → sProp 𝕄) :
    iprop(records I K ∗ levAts L lv ∗ Owes c (owing c 0) ∗ AOm I c n ∗ ASm I c n ∗ In c 3 g)
      ⊢ (Owes c (owing c 0) ∗ AOm I c (Function.update n g 4) ∗ ASm I c (Function.update n g 4) ∗ D c 3 g -∗ Q ⟨⟩)
      -∗ WP c (lastP g) Q := by
  have hg : g.val < 4 := g.isLt
  unfold lastP
  simp only [wp_bind]
  iintro ⟨#HR, #Hlev, HO, HAO, HAS, HI⟩ Hk
  iapply (waitP_spec I K c g 3 0 (by omega) (by show 2 + (4 * 3 + g.val) < 18 - 0; omega)) $$ [HO HI]
  · isplitr; · iexact HR
    isplitr; · iexact Hlev
    isplitl [HO]; · iexact HO
    iexact HI
  iintro ⟨HO, HZ, HSO, HSS, HRO, HRS⟩
  iapply (mergeP_spec I c g 3 n hn) $$ [HRO HRS HAO HAS]
  · isplitl [HRO]; · iexact HRO
    isplitl [HRS]; · iexact HRS
    isplitl [HAO] <;> iassumption
  iintro ⟨HRO, HRS, HAO, HAS⟩
  iapply (accP_spec I c g 3 n) $$ [HAO HAS]
  · isplitl [HAO] <;> iassumption
  iintro ⟨HAO, HAS⟩
  iapply Hk
  isplitl [HO]; · iexact HO
  isplitl [HAO]; · iexact HAO
  isplitl [HAS]; · iexact HAS
  unfold fullSO fullSS fullRO fullRS
  iapply (done_intro c 3 g)
  isplitl [HZ]; · iexact HZ
  isplitl [HSO]; · iexact HSO
  isplitl [HSS]; · iexact HSS
  isplitl [HRO]; · iexact HRO
  iexact HRS

theorem update4 (a : ℕ) : Function.update (Function.update (Function.update (Function.update (fun _ : Fin 4 => a) 0 (a + 1)) 1 (a + 1)) 2 (a + 1)) 3 (a + 1)
    = fun _ => a + 1 := by
  funext g; fin_cases g <;> rfl

/-- Step `k` of all four groups; `m + 4` starts are to go. -/
theorem roundP_spec (c : Dev nD) (k k' : Fin 4) (hk : k'.val = k.val + 1) (m : ℕ) (hm : m + 4 * k'.val = 12) (Q : PUnit → sProp 𝕄) :
    iprop(records I K ∗ levAts L lv ∗ Owes c (owing c (m + 4)) ∗ AOm I c (fun _ => k.val) ∗ ASm I c (fun _ => k.val)
        ∗ (bigSep Finset.univ fun g => In c k g) ∗ bigSep Finset.univ fun g => U c k' g)
      ⊢ (Owes c (owing c m) ∗ AOm I c (fun _ => k'.val) ∗ ASm I c (fun _ => k'.val) ∗ (bigSep Finset.univ fun g => D c k g)
          ∗ (bigSep Finset.univ fun g => In c k' g) -∗ Q ⟨⟩)
      -∗ WP c (roundP c k k') Q := by
  have hk' : k'.val < 4 := k'.isLt
  have hK : ∀ j, j < 4 → slotK (m + j) = k' := fun j hj => Fin.ext (by show ((15 - (m + j)) / 4) % 4 = _; omega)
  have hG : ∀ j, j < 4 → (slotG (m + j)).val = 3 - j := fun j hj => by show ((15 - (m + j)) % 4) % 4 = _; omega
  rw [hk, ← update4]
  rw [bigSep4, bigSep4, bigSep4, bigSep4]
  unfold roundP
  simp only [wp_bind]
  iintro ⟨#HR, #Hlev, HO, HAO, HAS, ⟨HI0, HI1, HI2, HI3⟩, HU0, HU1, HU2, HU3⟩ Hk
  iapply (stepP_spec I K c 0 k k' (m + 3) (fun _ => k.val) rfl hk (by omega) (by show 2 + (4 * k.val + 0) < _; omega) (hK 3 (by omega)) (Fin.ext (hG 3 (by omega)))) $$ [HO HAO HAS HI0 HU0]
  · isplitr; · iexact HR
    isplitr; · iexact Hlev
    isplitl [HO]; · iexact HO
    isplitl [HAO]; · iexact HAO
    isplitl [HAS]; · iexact HAS
    isplitl [HI0] <;> iassumption
  iintro ⟨HO, HAO, HAS, HD0, HI0⟩
  iapply (stepP_spec I K c 1 k k' (m + 2) (Function.update (fun _ => k.val) 0 (k.val + 1)) rfl hk (by omega) (by show 2 + (4 * k.val + 1) < _; omega) (hK 2 (by omega)) (Fin.ext (hG 2 (by omega)))) $$ [HO HAO HAS HI1 HU1]
  · isplitr; · iexact HR
    isplitr; · iexact Hlev
    isplitl [HO]; · iexact HO
    isplitl [HAO]; · iexact HAO
    isplitl [HAS]; · iexact HAS
    isplitl [HI1] <;> iassumption
  iintro ⟨HO, HAO, HAS, HD1, HI1⟩
  iapply (stepP_spec I K c 2 k k' (m + 1) (Function.update (Function.update (fun _ => k.val) 0 (k.val + 1)) 1 (k.val + 1)) rfl hk (by omega) (by show 2 + (4 * k.val + 2) < _; omega) (hK 1 (by omega)) (Fin.ext (hG 1 (by omega)))) $$ [HO HAO HAS HI2 HU2]
  · isplitr; · iexact HR
    isplitr; · iexact Hlev
    isplitl [HO]; · iexact HO
    isplitl [HAO]; · iexact HAO
    isplitl [HAS]; · iexact HAS
    isplitl [HI2] <;> iassumption
  iintro ⟨HO, HAO, HAS, HD2, HI2⟩
  iapply (stepP_spec I K c 3 k k' m (Function.update (Function.update (Function.update (fun _ => k.val) 0 (k.val + 1)) 1 (k.val + 1)) 2 (k.val + 1)) rfl hk (by omega) (by show 2 + (4 * k.val + 3) < _; omega) (hK 0 (by omega)) (Fin.ext (hG 0 (by omega)))) $$ [HO HAO HAS HI3 HU3]
  · isplitr; · iexact HR
    isplitr; · iexact Hlev
    isplitl [HO]; · iexact HO
    isplitl [HAO]; · iexact HAO
    isplitl [HAS]; · iexact HAS
    isplitl [HI3] <;> iassumption
  iintro ⟨HO, HAO, HAS, HD3, HI3⟩
  iapply Hk
  isplitl [HO]; · iexact HO
  isplitl [HAO]; · iexact HAO
  isplitl [HAS]; · iexact HAS
  isplitl [HD0 HD1 HD2 HD3]
  · isplitl [HD0]; · iexact HD0
    isplitl [HD1]; · iexact HD1
    isplitl [HD2] <;> iassumption
  isplitl [HI0]; · iexact HI0
  isplitl [HI1]; · iexact HI1
  isplitl [HI2] <;> iassumption

/-! ## Across the barriers -/

theorem add_sub_mask : ∀ d k : Fin 4, k + (d - k) = d := by decide

/-- What the entry barrier's wait brings: the slabs of the peers. -/
theorem bar_got (c : Dev nD) : (bigSep Finset.univ fun d : Fin 4 => payOf I c (some (.inl 0)) d)
    = bigSep Finset.univ fun k => bigSep Finset.univ fun g => anyR (F := F) c k g := by
  refine Eq.trans ?_ (bigSep_mask fun g k => anyR (F := F) c k g)
  refine bigSep_congr fun d _ => ?_
  show barPay (F := F) (peer d c) d = _
  unfold barPay
  refine bigSep_congr fun k _ => ?_
  show iprop(anyRO (F := F) (peer d c) (d - k) k ∗ anyRS (F := F) (peer d c) (d - k) k) = iprop(anyRO (F := F) (peer (k + (d - k)) c) (d - k) k ∗ anyRS (F := F) (peer (k + (d - k)) c) (d - k) k)
  rw [add_sub_mask]

/-- What its signals hand over: a device's own. -/
theorem bar_give (c : Dev nD) : (bigSep Finset.univ fun d : Fin 4 => payOf I (peer d c) (some (.inl 0)) d)
    = bigSep Finset.univ fun k => bigSep Finset.univ fun g => ownR (F := F) c k g := by
  refine Eq.trans ?_ (bigSep_mask fun g k => ownR (F := F) c k g)
  refine bigSep_congr fun d _ => ?_
  show barPay (F := F) (peer d (peer d c)) d = _
  rw [peer_peer]
  rfl

omit [FloatOps F] in
theorem hidx_all (b : Fin 2) (h : Fin 8) : hidx b h < 16 := by
  unfold hidx; omega

theorem AO_all (c : Dev nD) : AOh I c 16 ⊢ AOm I c (fun _ => 0) := by
  unfold AOh AOm
  exact held_mono (b := cc0_scratch0) (A' := fun i : S2x8x64x128.Idx => True) fun i _ => ⟨hidx_all (i 0) (i 1), rfl⟩
theorem AS_all (c : Dev nD) : ASh I c 16 ⊢ ASm I c (fun _ => 0) := by
  unfold ASh ASm
  exact held_mono (b := cc0_scratch1) (A' := fun i : S2x8x2x128.Idx => True) fun i _ => ⟨hidx_all (i 0) (i 1), rfl⟩

theorem headsP_spec (c : Dev nD) (Q : PUnit → sProp 𝕄) :
    iprop(records I K ∗ levAts L lv ∗ Owes c (owing c 16) ∗ Kin I c ∗ Vin I c ∗ AOh I c 0 ∗ ASh I c 0
        ∗ cred (tallyAt (cell c (.inl 0)) () 4) ∗ atPos ER (cell c (.inl 0)) 0 ∅ 0
        ∗ (bigSep Finset.univ fun g => anyS c 0 g) ∗ (bigSep Finset.univ fun g => T c 0 g))
      ⊢ (Owes c (owing c 12) ∗ Kin I c ∗ Vin I c ∗ AOm I c (fun _ => 0) ∗ ASm I c (fun _ => 0) ∗ semVal (cell c (.inl 0)) 0
          ∗ (bigSep Finset.univ fun g => In c 0 g) ∗ (bigSep Finset.univ fun g => anyR c 1 g) ∗ (bigSep Finset.univ fun g => anyR c 2 g)
          ∗ (bigSep Finset.univ fun g => anyR c 3 g) -∗ Q ⟨⟩)
      -∗ WP c (headsP c (qV (I.x c) (I.wq c))) Q := by
  rw [bigSep4 fun g => anyS c 0 g, bigSep4 fun g => T c 0 g, bigSep4 fun g => In c 0 g]
  unfold headsP anyS
  simp only [wp_bind]
  iintro ⟨#HR, #Hlev, HO, HK, HV, HAO, HAS, Hcb, Hab, ⟨⟨HSO0, HSS0⟩, ⟨HSO1, HSS1⟩, ⟨HSO2, HSS2⟩, HSO3, HSS3⟩, HT0, HT1, HT2, HT3⟩ Hk
  iapply (groupP_spec I c 0 0 rfl) $$ [HK HV HAO HAS HSO0 HSS0]
  · isplitl [HK]; · iexact HK
    isplitl [HV]; · iexact HV
    isplitl [HAO]; · iexact HAO
    isplitl [HAS]; · iexact HAS
    isplitl [HSO0] <;> iassumption
  iintro ⟨HK, HV, HAO, HAS, HSO0, HSS0⟩
  iapply (wp_bar I K 0 rfl (owing c 16) (mayWait_cell c (.inl 0) 16 le_rfl (by decide))) $$ [HO Hcb Hab]
  · isplitr; · iexact HR
    isplitr; · iexact Hlev
    isplitl [Hcb]; · iexact Hcb
    isplitl [HO]; · iexact HO
    iexact Hab
  iintro ⟨HO, Hzb, Hpay⟩
  ihave Hpay := (Entails.of_eq ((bar_got I c).trans ((bigSep4 _).trans (by rw [bigSep4 fun g => anyR c 0 g])))) $$ Hpay
  icases Hpay with ⟨⟨HR0, HR1, HR2, HR3⟩, HRR1, HRR2, HRR3⟩
  iapply (startP_spec I K c 0 0 15 rfl rfl) $$ [HO HSO0 HSS0 HT0 HR0]
  · isplitr; · iexact HR
    isplitl [HO]; · iexact HO
    isplitl [HSO0]; · iexact HSO0
    isplitl [HSS0]; · iexact HSS0
    isplitl [HT0] <;> iassumption
  iintro ⟨HO, HI0⟩
  iapply (groupP_spec I c 1 4 rfl) $$ [HK HV HAO HAS HSO1 HSS1]
  · isplitl [HK]; · iexact HK
    isplitl [HV]; · iexact HV
    isplitl [HAO]; · iexact HAO
    isplitl [HAS]; · iexact HAS
    isplitl [HSO1] <;> iassumption
  iintro ⟨HK, HV, HAO, HAS, HSO1, HSS1⟩
  iapply (startP_spec I K c 1 0 14 rfl rfl) $$ [HO HSO1 HSS1 HT1 HR1]
  · isplitr; · iexact HR
    isplitl [HO]; · iexact HO
    isplitl [HSO1]; · iexact HSO1
    isplitl [HSS1]; · iexact HSS1
    isplitl [HT1] <;> iassumption
  iintro ⟨HO, HI1⟩
  iapply (groupP_spec I c 2 8 rfl) $$ [HK HV HAO HAS HSO2 HSS2]
  · isplitl [HK]; · iexact HK
    isplitl [HV]; · iexact HV
    isplitl [HAO]; · iexact HAO
    isplitl [HAS]; · iexact HAS
    isplitl [HSO2] <;> iassumption
  iintro ⟨HK, HV, HAO, HAS, HSO2, HSS2⟩
  iapply (startP_spec I K c 2 0 13 rfl rfl) $$ [HO HSO2 HSS2 HT2 HR2]
  · isplitr; · iexact HR
    isplitl [HO]; · iexact HO
    isplitl [HSO2]; · iexact HSO2
    isplitl [HSS2]; · iexact HSS2
    isplitl [HT2] <;> iassumption
  iintro ⟨HO, HI2⟩
  iapply (groupP_spec I c 3 12 rfl) $$ [HK HV HAO HAS HSO3 HSS3]
  · isplitl [HK]; · iexact HK
    isplitl [HV]; · iexact HV
    isplitl [HAO]; · iexact HAO
    isplitl [HAS]; · iexact HAS
    isplitl [HSO3] <;> iassumption
  iintro ⟨HK, HV, HAO, HAS, HSO3, HSS3⟩
  iapply (startP_spec I K c 3 0 12 rfl rfl) $$ [HO HSO3 HSS3 HT3 HR3]
  · isplitr; · iexact HR
    isplitl [HO]; · iexact HO
    isplitl [HSO3]; · iexact HSO3
    isplitl [HSS3]; · iexact HSS3
    isplitl [HT3] <;> iassumption
  iintro ⟨HO, HI3⟩
  iapply Hk
  isplitl [HO]; · iexact HO
  isplitl [HK]; · iexact HK
  isplitl [HV]; · iexact HV
  isplitl [HAO]; · iapply (AO_all I c) $$ HAO
  isplitl [HAS]; · iapply (AS_all I c) $$ HAS
  isplitl [Hzb]; · iexact Hzb
  isplitl [HI0 HI1 HI2 HI3]
  · isplitl [HI0]; · iexact HI0
    isplitl [HI1]; · iexact HI1
    isplitl [HI2] <;> iassumption
  isplitl [HRR1]; · iexact HRR1
  isplitl [HRR2] <;> iassumption

/-! ## The result and the tail -/

theorem outP_spec (c : Dev nD) (Q : PUnit → sProp 𝕄) :
    iprop(∃ f, pB c cc0_stg5_0 Finset.univ f)
      ⊢ (pB c cc0_stg5_0 Finset.univ (cOut I c) -∗ Q ⟨⟩)
      -∗ WP c (outP (finO I c 0) (finO I c 1) (finL I c 0) (finL I c 1) (woV I c 0) (woV I c 1)) Q := by
  have w0 : ∀ x, outB0 I c x = cOut I c ((rOut 0).emb x) := fun x => by
    rw [emb_rOut]; refine Eq.trans ?_ (if_pos rfl).symm
    congr 1; funext a; apply Fin.ext; fin_cases a
    · have h0 : (x 0).val < 1 := (x 0).isLt; show (x 0).val = 0; omega
    · rfl
    · rfl
  have w1 : ∀ x, outB1 I c x = cOut I c ((rOut 1).emb x) := fun x => by
    rw [emb_rOut]; refine Eq.trans ?_ (if_neg Nat.one_ne_zero).symm
    congr 1; funext a; apply Fin.ext; fin_cases a
    · have h0 : (x 0).val < 1 := (x 0).isLt; show (x 0).val = 0; omega
    · rfl
    · rfl
  have m0 : ∀ i : S2x128x512.Idx, (i 0).val = 0 → i ∉ (rOut 0).set → False := fun i h hi => hi ((mem_rOut _ _).mpr h)
  have m1 : ∀ i : S2x128x512.Idx, True → i ∉ (rOut 1).set → (i 0).val = 0 ∧ cOut I c i = cOut I c i := fun i _ hi => ⟨by
    have h2 : (i 0).val < 2 := (i 0).isLt
    have : ¬(i 0).val = 1 := fun h => hi ((mem_rOut _ _).mpr h)
    omega, rfl⟩
  iintro ⟨%f, H⟩ Hk
  ihave H := (held_none c cc0_stg5_0 Finset.univ f (cOut I c)) $$ H
  unfold outP
  simp only [wp_bind]
  iapply (wp_ldx cc0_stg5_0 rfl HEq.rfl (Finset.subset_univ _)) $$ H
  iintro H
  iapply (wp_st cc0_stg5_0 rfl HEq.rfl (fun i : S2x128x512.Idx => (i 0).val = 0) (cOut I c) (Finset.subset_univ _) w0 (fun i h hi => (m0 i h hi).elim)) $$ H
  iintro H
  iapply (wp_ldx cc0_stg5_0 rfl HEq.rfl (Finset.subset_univ _)) $$ H
  iintro H
  iapply (wp_st cc0_stg5_0 rfl HEq.rfl (fun i : S2x128x512.Idx => True) (cOut I c) (Finset.subset_univ _) w1 m1) $$ H
  iintro H
  iapply Hk
  iapply (held_pts fun i hi => trivial) $$ H

theorem pay_end (c : Dev nD) : (emp : sProp 𝕄) ⊢ bigSep Finset.univ fun d : Fin 4 => payOf I (peer d c) (some (.inl 1)) d := by
  rw [bigSep4]
  show (emp : sProp 𝕄) ⊢ iprop(emp ∗ emp ∗ emp ∗ emp)
  iintro -
  isplitl; · iempintro
  isplitl; · iempintro
  isplitl <;> iempintro

theorem tailP_spec (c : Dev nD) (Q : PUnit → sProp 𝕄) :
    iprop(records I K ∗ levAts L lv ∗ Owes c (owing c 0) ∗ AOm I c (fun _ => 3) ∗ ASm I c (fun _ => 3) ∗ Win I c
        ∗ (∃ f, pB c cc0_stg5_0 Finset.univ f) ∗ (bigSep Finset.univ fun g => In c 3 g)
        ∗ (bigSep Finset.univ fun d : Fin 4 => dutyTok ER (cell (peer d c) (.inl 1)) 0 d)
        ∗ cred (tallyAt (cell c (.inl 1)) () 4) ∗ atPos ER (cell c (.inl 1)) 0 ∅ 0)
      ⊢ (Owes c 0 ∗ AOm I c (fun _ => 4) ∗ ASm I c (fun _ => 4) ∗ Win I c ∗ pB c cc0_stg5_0 Finset.univ (cOut I c)
          ∗ (bigSep Finset.univ fun g => D c 3 g) ∗ semVal (cell c (.inl 1)) 0 -∗ Q ⟨⟩)
      -∗ WP c (tailP c) Q := by
  rw [bigSep4 fun g => In c 3 g, bigSep4 fun g => D c 3 g, ← update4 3]
  unfold tailP
  simp only [wp_bind]
  iintro ⟨#HR, #Hlev, HO, HAO, HAS, HW, Hout, ⟨HI0, HI1, HI2, HI3⟩, Ht, Hce, Hae⟩ Hk
  iapply (lastP_spec I K c 0 (fun _ => 3) rfl) $$ [HO HAO HAS HI0]
  · isplitr; · iexact HR
    isplitr; · iexact Hlev
    isplitl [HO]; · iexact HO
    isplitl [HAO]; · iexact HAO
    isplitl [HAS] <;> iassumption
  iintro ⟨HO, HAO, HAS, HD0⟩
  iapply (lastP_spec I K c 1 (Function.update (fun _ => 3) 0 4) rfl) $$ [HO HAO HAS HI1]
  · isplitr; · iexact HR
    isplitr; · iexact Hlev
    isplitl [HO]; · iexact HO
    isplitl [HAO]; · iexact HAO
    isplitl [HAS] <;> iassumption
  iintro ⟨HO, HAO, HAS, HD1⟩
  iapply (projP_spec I c 0 (Function.update (Function.update (fun _ => 3) 0 4) 1 4) (by decide)) $$ [HAO HAS HW]
  · isplitl [HAO]; · iexact HAO
    isplitl [HAS] <;> iassumption
  iintro ⟨HAO, HAS, HW⟩
  simp only [wp_bind]
  iapply (lastP_spec I K c 2 (Function.update (Function.update (fun _ => 3) 0 4) 1 4) rfl) $$ [HO HAO HAS HI2]
  · isplitr; · iexact HR
    isplitr; · iexact Hlev
    isplitl [HO]; · iexact HO
    isplitl [HAO]; · iexact HAO
    isplitl [HAS] <;> iassumption
  iintro ⟨HO, HAO, HAS, HD2⟩
  iapply (lastP_spec I K c 3 (Function.update (Function.update (Function.update (fun _ => 3) 0 4) 1 4) 2 4) rfl) $$ [HO HAO HAS HI3]
  · isplitr; · iexact HR
    isplitr; · iexact Hlev
    isplitl [HO]; · iexact HO
    isplitl [HAO]; · iexact HAO
    isplitl [HAS] <;> iassumption
  iintro ⟨HO, HAO, HAS, HD3⟩
  ihave HO := (show Owes c (owing c 0) ⊢ Owes c (sigOwed 1 c 0) from Entails.refl _) $$ HO
  iapply (signalP_spec I K c 1 rfl 0) $$ [HO Ht]
  · isplitr; · iexact HR
    isplitl [HO]; · iexact HO
    isplitl [Ht]; · iexact Ht
    iapply (pay_end I c); iempintro
  iintro HO
  iapply (projP_spec I c 1 (Function.update (Function.update (Function.update (Function.update (fun _ => 3) 0 4) 1 4) 2 4) 3 4) (by decide)) $$ [HAO HAS HW]
  · isplitl [HAO]; · iexact HAO
    isplitl [HAS] <;> iassumption
  iintro ⟨HAO, HAS, HW⟩
  simp only [wp_bind]
  iapply (outP_spec I c) $$ Hout
  iintro Hout
  iapply (wp_bar I K 1 rfl 0 (by rw [MayWait_zero]; iintro -; iempintro)) $$ [HO Hce Hae]
  · isplitr; · iexact HR
    isplitr; · iexact Hlev
    isplitl [Hce]; · iexact Hce
    isplitl [HO]; · iexact HO
    iexact Hae
  iintro ⟨HO, Hz, -⟩
  iapply Hk
  isplitl [HO]; · iexact HO
  isplitl [HAO]; · iexact HAO
  isplitl [HAS]; · iexact HAS
  isplitl [HW]; · iexact HW
  isplitl [Hout]; · iexact Hout
  isplitl [HD0 HD1 HD2 HD3]
  · isplitl [HD0]; · iexact HD0
    isplitl [HD1]; · iexact HD1
    isplitl [HD2] <;> iassumption
  iexact Hz

/-! ## The body -/

/-- The ghosts a device starts with, its records besides. -/
def ghost (c : Dev nD) : sProp 𝕄 :=
  iprop((bigSep Finset.univ fun d : Fin 4 => dutyTok ER (cell (peer d c) (.inl 0)) 0 d)
    ∗ (bigSep Finset.univ fun d : Fin 4 => dutyTok ER (cell (peer d c) (.inl 1)) 0 d)
    ∗ atPos ER (cell c (.inl 0)) 0 ∅ 0 ∗ atPos ER (cell c (.inl 1)) 0 ∅ 0
    ∗ (bigSep Finset.univ fun k => bigSep Finset.univ fun g => iprop(T4 c k g ∗ A4 c k g)))

/-- Its launch credit. -/
def creds (c : Dev nD) : sProp 𝕄 :=
  iprop(cred (tallyAt (cell c (.inl 0)) () 4) ∗ cred (tallyAt (cell c (.inl 1)) () 4)
    ∗ (bigSep Finset.univ fun k => bigSep Finset.univ fun g => C4 c k g))

/-- Its scratch buffers, the exchanged ones by slab. -/
def scratch (c : Dev nD) : sProp 𝕄 :=
  iprop((∃ f, pB c cc0_scratch0 Finset.univ f) ∗ (∃ f, pB c cc0_scratch1 Finset.univ f)
    ∗ (bigSep Finset.univ fun k => bigSep Finset.univ fun g => anyS c k g)
    ∗ (bigSep Finset.univ fun k => bigSep Finset.univ fun g => ownR c k g))

/-- Its cells, closed. -/
def closed (c : Dev nD) : sProp 𝕄 :=
  iprop(semVal (cell c (.inl 0)) 0 ∗ semVal (cell c (.inl 1)) 0 ∗ (bigSep Finset.univ fun k => bigSep Finset.univ fun g => Z4 c k g))

def Xin (c : Dev nD) : sProp 𝕄 := Held c cc0_stg0_0 Finset.univ (fun _ => True) (I.x c)
def Wqin (c : Dev nD) : sProp 𝕄 := Held c cc0_stg1_0 Finset.univ (fun _ => True) (I.wq c)

theorem T_intro (c : Dev nD) : iprop((bigSep Finset.univ fun k => bigSep Finset.univ fun g => iprop(T4 c k g ∗ A4 c k g))
      ∗ (bigSep Finset.univ fun k => bigSep Finset.univ fun g => C4 c k g))
    ⊢ (bigSep Finset.univ fun k => bigSep Finset.univ fun g => T (F := F) c k g) := by
  rw [← bigSep_sep']
  refine bigSep_mono fun k _ => ?_
  rw [← bigSep_sep']
  refine bigSep_mono fun g _ => ?_
  unfold T
  show (iprop((T4 c k g ∗ A4 c k g) ∗ C4 c k g) : sProp 𝕄) ⊢ iprop(T4 c k g ∗ A4 c k g ∗ C4 c k g)
  iintro ⟨⟨H1, H2⟩, H3⟩
  isplitl [H1]; · iexact H1
  isplitl [H2] <;> iassumption

theorem U_intro (c : Dev nD) (k : Fin 4) : iprop((bigSep Finset.univ fun g => anyS c k g) ∗ (bigSep Finset.univ fun g => T c k g) ∗ (bigSep Finset.univ fun g => anyR c k g))
    ⊢ (bigSep Finset.univ fun g => U (F := F) c k g) := by
  rw [← bigSep_sep', ← bigSep_sep']
  exact bigSep_mono fun g _ => by unfold U; exact Entails.refl _

theorem D_elim (c : Dev nD) : (bigSep Finset.univ fun k => bigSep Finset.univ fun g => D c k g)
    ⊢ iprop((bigSep Finset.univ fun k => bigSep Finset.univ fun g => anyS c k g) ∗ (bigSep Finset.univ fun k => bigSep Finset.univ fun g => ownR c k g)
        ∗ (bigSep Finset.univ fun k => bigSep Finset.univ fun g => Z4 (F := F) c k g)) := by
  rw [← bigSep_sep', ← bigSep_sep']
  refine bigSep_mono fun k _ => ?_
  rw [← bigSep_sep', ← bigSep_sep']
  exact bigSep_mono fun g _ => by unfold D; exact Entails.refl _

theorem wp_dev (c : Dev nD) (Q : Dev nD → sProp 𝕄) : Q c ⊢ WP c (Prog.lift .deviceId) Q := by
  unfold Prog.lift
  show Q c ⊢ wp frame (wpE (defs₀ (F := F)) 𝒱₀ (c : Thread nD τ) none) Set.univ (.op .deviceId .ret) Q
  rw [wp_deviceId]; exact wp_done

theorem bodyP_spec (c : Dev nD) (Q : PUnit → sProp 𝕄) :
    iprop(records I K ∗ levAts L lv ∗ Owes c (O₀ c) ∗ Xin I c ∗ Wqin I c ∗ Win I c ∗ Kin I c ∗ Vin I c ∗ (∃ f, pB c cc0_stg5_0 Finset.univ f)
        ∗ scratch c ∗ ghost c ∗ creds c)
      ⊢ (Owes c 0 ∗ Xin I c ∗ Wqin I c ∗ Win I c ∗ Kin I c ∗ Vin I c ∗ pB c cc0_stg5_0 Finset.univ (cOut I c) ∗ scratch c ∗ closed c -∗ Q ⟨⟩)
      -∗ WP c bodyP Q := by
  have vx : ∀ x, I.x c (rX.emb x) = I.x c x := fun x => by
    congr 1; funext a; apply Fin.ext; fin_cases a <;> simp [Rect.emb_apply]
  have vw : ∀ x, I.wq c (rW.emb x) = I.wq c x := fun x => by
    congr 1; funext a; apply Fin.ext; fin_cases a <;> simp [Rect.emb_apply]
  unfold scratch ghost creds closed bodyP
  simp only [wp_bind]
  iintro ⟨#HR, #Hlev, HO, HX, HWq, HW, HK, HV, Hout, ⟨⟨%f0, HAO⟩, ⟨%f1, HAS⟩, HS, HOwn⟩, ⟨Htb, Hte, Hab, Hae, HTA⟩, Hcb, Hce, HC⟩ Hk
  iapply (wp_dev c)
  ihave HO := (show Owes c (O₀ c) ⊢ Owes c (sigOwed 0 c (owing c 16)) from Entails.refl _) $$ HO
  iapply (signalP_spec I K c 0 rfl (owing c 16)) $$ [HO Htb HOwn]
  · isplitr; · iexact HR
    isplitl [HO]; · iexact HO
    isplitl [Htb]; · iexact Htb
    iapply (Entails.of_eq (bar_give I c).symm) $$ HOwn
  iintro HO
  unfold Xin Wqin
  iapply (wp_ld cc0_stg0_0 rfl HEq.rfl (I.x c) (Finset.subset_univ _) (fun _ => trivial) vx) $$ HX
  iintro HX
  iapply (wp_ld cc0_stg1_0 rfl HEq.rfl (I.wq c) (Finset.subset_univ _) (fun _ => trivial) vw) $$ HWq
  iintro HWq
  ihave HAO := (held_none c cc0_scratch0 Finset.univ f0 (cAO I (fun _ => 0) c)) $$ HAO
  ihave HAS := (held_none c cc0_scratch1 Finset.univ f1 (cAS I (fun _ => 0) c)) $$ HAS
  ihave HAO := (held_mono (b := cc0_scratch0) (A' := fun i : S2x8x64x128.Idx => hidx (i 0) (i 1) < 0) (spec' := cAO I (fun _ => 0) c) fun i h => absurd h (Nat.not_lt_zero _)) $$ HAO
  ihave HAS := (held_mono (b := cc0_scratch1) (A' := fun i : S2x8x2x128.Idx => hidx (i 0) (i 1) < 0) (spec' := cAS I (fun _ => 0) c) fun i h => absurd h (Nat.not_lt_zero _)) $$ HAS
  ihave HT := (T_intro c) $$ [HTA HC]
  · isplitl [HTA] <;> iassumption
  ihave HT := (Entails.of_eq (bigSep4 _)) $$ HT
  ihave HS := (Entails.of_eq (bigSep4 _)) $$ HS
  icases HT with ⟨HT0, HT1, HT2, HT3⟩
  icases HS with ⟨HS0, HS1, HS2, HS3⟩
  iapply (headsP_spec I K c) $$ [HO HK HV HAO HAS Hcb Hab HS0 HT0]
  · isplitr; · iexact HR
    isplitr; · iexact Hlev
    isplitl [HO]; · iexact HO
    isplitl [HK]; · iexact HK
    isplitl [HV]; · iexact HV
    isplitl [HAO]; · unfold AOh; iexact HAO
    isplitl [HAS]; · unfold ASh; iexact HAS
    isplitl [Hcb]; · iexact Hcb
    isplitl [Hab]; · iexact Hab
    isplitl [HS0] <;> iassumption
  iintro ⟨HO, HK, HV, HAO, HAS, Hzb, HI, HR1, HR2, HR3⟩
  ihave HU1 := (U_intro c 1) $$ [HS1 HT1 HR1]
  · isplitl [HS1]; · iexact HS1
    isplitl [HT1] <;> iassumption
  ihave HU2 := (U_intro c 2) $$ [HS2 HT2 HR2]
  · isplitl [HS2]; · iexact HS2
    isplitl [HT2] <;> iassumption
  ihave HU3 := (U_intro c 3) $$ [HS3 HT3 HR3]
  · isplitl [HS3]; · iexact HS3
    isplitl [HT3] <;> iassumption
  iapply (roundP_spec I K c 0 1 rfl 8 rfl) $$ [HO HAO HAS HI HU1]
  · isplitr; · iexact HR
    isplitr; · iexact Hlev
    isplitl [HO]; · iexact HO
    isplitl [HAO]; · iexact HAO
    isplitl [HAS]; · iexact HAS
    isplitl [HI] <;> iassumption
  iintro ⟨HO, HAO, HAS, HD0, HI⟩
  iapply (roundP_spec I K c 1 2 rfl 4 rfl) $$ [HO HAO HAS HI HU2]
  · isplitr; · iexact HR
    isplitr; · iexact Hlev
    isplitl [HO]; · iexact HO
    isplitl [HAO]; · iexact HAO
    isplitl [HAS]; · iexact HAS
    isplitl [HI] <;> iassumption
  iintro ⟨HO, HAO, HAS, HD1, HI⟩
  iapply (roundP_spec I K c 2 3 rfl 0 rfl) $$ [HO HAO HAS HI HU3]
  · isplitr; · iexact HR
    isplitr; · iexact Hlev
    isplitl [HO]; · iexact HO
    isplitl [HAO]; · iexact HAO
    isplitl [HAS]; · iexact HAS
    isplitl [HI] <;> iassumption
  iintro ⟨HO, HAO, HAS, HD2, HI⟩
  iapply (tailP_spec I K c) $$ [HO HAO HAS HW Hout HI Hte Hce Hae]
  · isplitr; · iexact HR
    isplitr; · iexact Hlev
    isplitl [HO]; · iexact HO
    isplitl [HAO]; · iexact HAO
    isplitl [HAS]; · iexact HAS
    isplitl [HW]; · iexact HW
    isplitl [Hout]; · iexact Hout
    isplitl [HI]; · iexact HI
    isplitl [Hte]; · iexact Hte
    isplitl [Hce] <;> iassumption
  iintro ⟨HO, HAO, HAS, HW, Hout, HD3, Hze⟩
  ihave HD := ((Entails.of_eq (bigSep4 fun k => bigSep Finset.univ fun g => D c k g).symm).trans (D_elim c)) $$ [HD0 HD1 HD2 HD3]
  · isplitl [HD0]; · iexact HD0
    isplitl [HD1]; · iexact HD1
    isplitl [HD2] <;> iassumption
  icases HD with ⟨HS, HOwn, HZ⟩
  iapply Hk
  isplitl [HO]; · iexact HO
  isplitl [HX]; · iexact HX
  isplitl [HWq]; · iexact HWq
  isplitl [HW]; · iexact HW
  isplitl [HK]; · iexact HK
  isplitl [HV]; · iexact HV
  isplitl [Hout]; · iexact Hout
  isplitl [HAO HAS HS HOwn]
  · isplitl [HAO]; · unfold AOm; iapply held_some $$ HAO
    isplitl [HAS]; · unfold ASm; iapply held_some $$ HAS
    isplitl [HS] <;> iassumption
  isplitl [Hzb]; · iexact Hzb
  isplitl [Hze] <;> iassumption

end Cert.KernelIdeal.Att

end
-- ==== Proof.KernelIdeal.Deal.lean ====
/- The launch of the protocol: the cells' invariants allocated for all devices at once, the duty tokens dealt
   to the devices that pay them, and the launch credit counted. -/
module

public import proofs.«01_k».proof.Proof.KernelIdeal.Body

@[expose] public section

set_option synthInstance.maxSize 4096

noncomputable section

namespace Cert.KernelIdeal.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

/-! ## The semaphores -/

/-- The kernel's own semaphores: the exit barrier and the DMA semaphores. -/
abbrev Ox : Type := Unit ⊕ ((Fin 4 × Fin 4) × Fin 4)
def osem : Ox → SemLoc sig
  | .inl _ => csem (.inl 1)
  | .inr s => csem (.inr s)

theorem ownSemFacts : Pipeline.OwnSemFacts cfg0.spec osem := by decide +kernel

/-- A device's duties: the four of each barrier, one of each transfer's cell. -/
abbrev Dx : Type := (Fin 2 × Fin 4) ⊕ ((Fin 4 × Fin 4) × Fin 4)

omit [FloatOps F] in
theorem bigSep_Cx (Φ : Cx → sProp 𝕄) : bigSep Finset.univ Φ
    = iprop((Φ (.inl 0) ∗ Φ (.inl 1)) ∗ bigSep Finset.univ fun k => bigSep Finset.univ fun g => bigSep Finset.univ fun κ => Φ (cx k g κ)) := by
  rw [BI.bigSep_univ_sum, BI.bigSep_univ_prod, BI.bigSep_univ_prod, bigSep_univ_eq_bigSepL [0, 1] (by decide) (by decide)]
  rfl

omit [FloatOps F] in
theorem bigSep_Dx (Φ : Dx → sProp 𝕄) : bigSep Finset.univ Φ
    = iprop(((bigSep Finset.univ fun d => Φ (.inl (0, d))) ∗ bigSep Finset.univ fun d => Φ (.inl (1, d)))
        ∗ bigSep Finset.univ fun k => bigSep Finset.univ fun g => bigSep Finset.univ fun κ => Φ (.inr ((k, g), κ))) := by
  rw [BI.bigSep_univ_sum, BI.bigSep_univ_prod, BI.bigSep_univ_prod, BI.bigSep_univ_prod, bigSep_univ_eq_bigSepL (I := Fin 2) [0, 1] (by decide) (by decide)]
  rfl

omit [FloatOps F] in
theorem ownSems0_eq (c : Dev nD) : (Pipeline.ownSems0 (Ix := Unit) (Name := ℕ) (U := UU) (Lvl := ℕ) (Val := Elt F) (τ := τ) osem c : sProp 𝕄)
    = iprop(semVal (cell c (.inl 1)) 0 ∗ bigSep Finset.univ fun k => bigSep Finset.univ fun g => Z4 c k g) := by
  unfold Pipeline.ownSems0 Z4
  rw [BI.bigSep_univ_sum, BI.bigSep_univ_prod, BI.bigSep_univ_prod, bigSep_univ_eq_bigSepL [()] (by decide) (by decide)]
  rfl

omit [FloatOps F] in
theorem unscopedSems0_eq (c : Dev nD) : (unscopedSems0 c : sProp 𝕄) = semVal (cell c (.inl 0)) 0 := by
  unfold unscopedSems0; rw [bigSep_eq_bigSepL_of_eq [SemLoc.reg semB] (by decide) (by decide)]; rfl

omit [FloatOps F] in
theorem sems0_cells (c : Dev nD) :
    iprop(Pipeline.ownSems0 (Ix := Unit) (Name := ℕ) (U := UU) (Lvl := ℕ) (Val := Elt F) (τ := τ) osem c ∗ unscopedSems0 c)
      ⊢ (bigSep Finset.univ fun x : Cx => semVal (cell c x) 0 : sProp 𝕄) := by
  rw [ownSems0_eq, unscopedSems0_eq, bigSep_Cx]
  iintro ⟨⟨H1, HZ⟩, H0⟩
  isplitl [H0 H1]
  · isplitl [H0] <;> iassumption
  unfold Z4; iexact HZ

/-! ## The cells and the tokens minted -/

theorem kcell_injective : Function.Injective kcell := by
  rintro ⟨c, x⟩ ⟨c', x'⟩ h
  have h1 : c = c' := congrArg (fun g : GSem nD τ sig => g.1.1) h
  have h2 : x = x' := csem_injective (congrArg Prod.snd h)
  rw [h1, h2]
def allCells : Finset (GSem nD τ sig) := Finset.univ.map ⟨kcell, kcell_injective⟩

def Dx.cx : Dx → Cx
  | .inl (e, _) => .inl e
  | .inr s => .inr s
def Dx.nm : Dx → Fin 4
  | .inl (_, d) => d
  | .inr _ => 0
theorem Dx.ext {x y : Dx} (h : x.cx = y.cx) (h' : x.nm = y.nm) : x = y := by
  rcases x with ⟨e, d⟩ | s <;> rcases y with ⟨e', d'⟩ | s' <;> simp only [Dx.cx, Dx.nm, Sum.inl.injEq, Sum.inr.injEq, reduceCtorEq] at h h'
  · rw [h, h']
  · rw [h]

/-- Who pays a duty of `c`; whose duties `c` pays. -/
def pay (x : Dx) (c : Dev nD) : Dev nD := match x with
  | .inl (_, d) => peer d c
  | .inr ((k, g), κ) => payee c k g κ
theorem pay_pay (x : Dx) (c : Dev nD) : pay x (pay x c) = c := by
  rcases x with ⟨e, d⟩ | ⟨⟨k, g⟩, κ⟩
  · exact peer_peer d c
  · show payee (payee c k g κ) k g κ = c
    unfold payee; split
    · exact peer_peer _ c
    · rfl

def tokOf (cx : Dev nD × Dx) : GSem nD τ sig × ℕ × Fin 4 := (cell cx.1 cx.2.cx, 0, cx.2.nm)
theorem tokOf_injective : Function.Injective tokOf := by
  rintro ⟨c, x⟩ ⟨c', x'⟩ h
  have h1 := kcell_injective (a₁ := (c, x.cx)) (a₂ := (c', x'.cx)) (congrArg Prod.fst h)
  have h2 : x.nm = x'.nm := congrArg (fun y : GSem nD τ sig × ℕ × Fin 4 => y.2.2) h
  have h3 : c = c' := congrArg Prod.fst h1
  have h4 : x = x' := Dx.ext (congrArg Prod.snd h1) h2
  rw [h3, h4]
def allToks : Finset (GSem nD τ sig × ℕ × Fin 4) := Finset.univ.map ⟨tokOf, tokOf_injective⟩

def u₀ : UU := (initOf (Pipeline.cells cfgs cellOf_inj) (Pipeline.launchToks cfgs cellOf_inj), initOf allCells allToks)

/-- The tokens of a device's own cells; those it pays. -/
def toks (c : Dev nD) : sProp 𝕄 := bigSep Finset.univ fun x : Dx => dutyTok ER (cell c x.cx) 0 x.nm
def payToks (c : Dev nD) : sProp 𝕄 := bigSep Finset.univ fun x : Dx => dutyTok ER (cell (pay x c) x.cx) 0 x.nm

omit [FloatOps F] in
theorem toks_dealt : (bigSep Finset.univ fun c : Dev nD => (toks c : sProp 𝕄)) = bigSep Finset.univ fun c : Dev nD => payToks c := by
  unfold toks payToks
  rw [BI.bigSep_univ_comm, BI.bigSep_univ_comm (fun (c : Dev nD) (x : Dx) => dutyTok ER (cell (pay x c) x.cx) 0 x.nm)]
  exact bigSep_congr fun x _ => bigSep_univ_equiv (Function.Involutive.toPerm (pay x) (pay_pay x)) fun c => dutyTok ER (cell c x.cx) 0 x.nm

/-! ## The global step -/

def G (c : Dev nD) : sProp 𝕄 :=
  iprop((bigSep Finset.univ fun x : Cx => roundState ER (sched I) (cell c x) 0)
    ∗ (bigSep Finset.univ fun x : Cx => iprop(atPos ER (cell c x) 0 ∅ 0 ∗ reached ER (cell c x) 0)) ∗ toks c)

def G' (c : Dev nD) : sProp 𝕄 := iprop(∃ K, records I K ∗ ghost c)

theorem fund_cells : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun x : Cx => Φ (cell c x) := by
    unfold allCells; rw [bigSep_map, BI.bigSep_univ_prod]; rfl
  have hT : bigSep allToks (fun x => (dutyTok ER x.1 x.2.1 x.2.2 : sProp 𝕄)) = bigSep Finset.univ fun c : Dev nD => toks c := by
    unfold allToks; rw [bigSep_map, BI.bigSep_univ_prod]; rfl
  iintro HX
  imod (Rounds.fund ER (sched I) allCells allToks) $$ HX with ⟨Hst, Hr, Hat, Htok⟩
  imodintro
  ihave Hst := (Entails.of_eq (hX fun g => roundState ER (sched I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun x => iprop(∃ κ : ℕ, cellInv ER (sched I) κ (cell c x)))
          ∗ (bigSep Finset.univ fun x : Cx => iprop(atPos ER (cell c x) 0 ∅ 0 ∗ reached ER (cell c x) 0)) ∗ toks c) := by
  have hstep : iprop((bigSep Finset.univ fun x : Cx => semVal (cell c x) 0) ∗ bigSep Finset.univ fun x : Cx => roundState ER (sched I) (cell c x) 0)
      ⊢ (|={Set.univ}=> bigSep Finset.univ fun x => iprop(∃ κ : ℕ, cellInv ER (sched I) κ (cell c x)) : sProp 𝕄) := by
    rw [← bigSep_sep']
    exact (bigSep_mono fun x _ => (Rounds.body_intro ER (sched I) (cell c x)).trans inv_alloc).trans (bigSep_fupd _ _)
  unfold G
  iintro ⟨Hos, Hus, Hst, Hat, Htok⟩
  ihave Hv := (sems0_cells (F := F) c) $$ [Hos Hus]
  · isplitl [Hos] <;> iassumption
  imod hstep $$ [Hv Hst] with Hinv
  · isplitl [Hv] <;> iassumption
  imodintro
  isplitl [Hinv]; · iexact Hinv
  isplitl [Hat] <;> iassumption

omit [FloatOps F] in
theorem bigSep_with {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (c : Dev nD) : iprop((bigSep Finset.univ fun x : Cx => atPos ER (cell c x) 0 ∅ 0) ∗ payToks c) ⊢ (ghost c : sProp 𝕄) := by
  unfold payToks
  rw [bigSep_Cx, bigSep_Dx]
  unfold ghost A4 T4
  simp only [bigSep_sep']
  iintro ⟨⟨⟨H0, H1⟩, HA⟩, ⟨HT0, HT1⟩, HT⟩
  isplitl [HT0]; · iexact HT0
  isplitl [HT1]; · iexact HT1
  isplitl [H0]; · iexact H0
  isplitl [H1]; · iexact H1
  isplitl [HT]; · iexact HT
  iexact HA

theorem regroup :
    (bigSep Finset.univ fun c : Dev nD => iprop((bigSep Finset.univ fun x => iprop(∃ κ : ℕ, cellInv ER (sched I) κ (cell c x)))
          ∗ (bigSep Finset.univ fun x : Cx => iprop(atPos ER (cell c x) 0 ∅ 0 ∗ reached ER (cell c x) 0)) ∗ toks c) : sProp 𝕄)
      ⊢ bigSep Finset.univ (G' I) := by
  simp only [bigSep_sep']
  rw [toks_dealt,
    show (bigSep Finset.univ fun c : Dev nD => bigSep Finset.univ fun x : Cx => iprop(∃ κ : ℕ, cellInv ER (sched I) κ (cell c x)) : sProp 𝕄) = _ from
      (BI.bigSep_univ_prod (fun cx : Dev nD × Cx => iprop(∃ κ : ℕ, cellInv ER (sched I) κ (kcell cx)))).symm,
    show (bigSep Finset.univ fun c : Dev nD => bigSep Finset.univ fun x : Cx => reached ER (cell c x) 0 : sProp 𝕄) = _ from
      (BI.bigSep_univ_prod (fun cx : Dev nD × Cx => (reached ER (kcell cx) 0 : sProp 𝕄))).symm]
  iintro ⟨HI, ⟨Hat, #HR⟩, Htok⟩
  ihave HK := (BI.bigSep_exists_pi Finset.univ (fun (cx : Dev nD × Cx) (κ : ℕ) => (cellInv ER (sched I) κ (kcell cx) : sProp 𝕄))) $$ HI
  icases HK with ⟨%K, #HI⟩
  iapply (bigSep_with (R := records I K) (Φ := fun c => iprop((bigSep Finset.univ fun x : Cx => atPos ER (cell c x) 0 ∅ 0) ∗ payToks c))
    fun c _ => show _ ⊢ G' I c from by
      unfold G'
      iintro ⟨HRec, H⟩
      iexists K
      isplitl [HRec]; · iexact HRec
      iapply (ghost_intro c) $$ H)
  isplitr
  · unfold records; isplitl; · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

theorem sum_tally (j : Fin 4) (y : Cx) (n : ℕ) (c : Dev nD) (x : Cx) :
    (∑ d : Dev nD, (tallyAt (cell (peer j d) y) () n : CT) (cell c x) ()) = n * if x = y then 1 else 0 := by
  rw [Finset.sum_congr rfl fun d _ => show (tallyAt (cell (peer j d) y) () n : CT) (cell c x) () = if d = peer j c then (n * if x = y then 1 else 0) else 0 from ?_,
    Finset.sum_ite_eq' Finset.univ (peer j c), if_pos (Finset.mem_univ _)]
  rw [tallyAt_apply]
  by_cases hd : d = peer j c
  · subst hd
    rw [peer_peer, if_pos rfl]
    by_cases hx : x = y
    · rw [if_pos ⟨by rw [hx], rfl⟩, if_pos hx, Nat.mul_one]
    · rw [if_neg fun h => hx (congrArg Prod.snd (kcell_injective (a₁ := (c, x)) (a₂ := (c, y)) h.1)), if_neg hx, Nat.mul_zero]
  · rw [if_neg hd]
    refine if_neg fun h => hd ?_
    rw [show c = peer j d from congrArg Prod.fst (kcell_injective (a₁ := (c, x)) (a₂ := (peer j d, y)) h.1), peer_peer]

theorem sum_sig (e : Fin 2) (O : Dev nD → CT) (c : Dev nD) (x : Cx) :
    (∑ d : Dev nD, sigOwed e d (O d) (cell c x) ()) = (∑ d : Dev nD, O d (cell c x) ()) + 4 * if x = .inl e then 1 else 0 := by
  unfold sigOwed
  simp only [Pi.add_apply, Finsupp.add_apply, Finset.sum_add_distrib, sum_tally]
  omega

theorem sum_owing (n : ℕ) (c : Dev nD) (x : Cx) :
    (∑ d : Dev nD, owing d n (cell c x) ()) = (4 * if x = .inl 1 then 1 else 0)
      + NS * (∑ i ∈ Finset.range n, if x = .inr ((slotK i, slotG i), 3) then 1 else 0)
      + NO * (∑ i ∈ Finset.range n, if x = .inr ((slotK i, slotG i), 1) then 1 else 0) := by
  induction n with
  | zero =>
    have h := sum_sig 1 (fun _ => 0) c x
    simp only [owing, Finset.range_zero, Finset.sum_empty, Nat.mul_zero, Nat.add_zero] at h ⊢
    rw [h]
    simp only [Pi.zero_apply, Finsupp.zero_apply, Finset.sum_const_zero, Nat.zero_add]
  | succ n ih =>
    simp only [owing, Pi.add_apply, Finsupp.add_apply, Finset.sum_add_distrib, sum_tally, ih, Finset.sum_range_succ, Nat.mul_add]
    omega

theorem slots_count : ∀ k g κ κ' : Fin 4, (∑ i ∈ Finset.range 16, if ((.inr ((k, g), κ) : Cx) = .inr ((slotK i, slotG i), κ')) then 1 else 0) = if κ = κ' then 1 else 0 := by
  decide +kernel

theorem owed_total (c : Dev nD) (x : Cx) : (∑ d : Dev nD, O₀ d (cell c x) ()) = credX x := by
  unfold O₀
  rw [sum_sig, sum_owing]
  rcases x with e | ⟨⟨k, g⟩, κ⟩
  · simp only [reduceCtorEq, if_false, Finset.sum_const_zero, Nat.mul_zero, Nat.add_zero, credX, Sum.inl.injEq]
    revert e; decide
  · rw [slots_count, slots_count]
    simp only [reduceCtorEq, if_false, Nat.mul_zero, Nat.zero_add, Nat.add_zero, credX, amt]
    revert κ
    generalize NS = a
    generalize NO = b
    intro κ
    fin_cases κ <;> simp

omit [FloatOps F] in
theorem creds_intro (c : Dev nD) : (Pipeline.launchCred O₀ c : sProp 𝕄) ⊢ creds c := by
  have hc : ∀ x : Cx, (tallyOn (cell c x) (launchCredit (Pipeline.owing O₀) 0 (cell c x)) : CT) = tallyAt (cell c x) () (credX x) := fun x => by
    unfold tallyAt; refine congrArg _ (Finsupp.ext fun u => ?_); cases u
    rw [Pipeline.launchCredit_owing, Finsupp.single_eq_same, owed_total]
  have h : (Pipeline.launchCred O₀ c : sProp 𝕄) ⊢ bigSep Finset.univ fun x : Cx => cred (tallyAt (cell c x) () (credX x)) := by
    rw [show (bigSep Finset.univ fun x : Cx => cred (tallyAt (cell c x) () (credX x)) : sProp 𝕄)
        = bigSep (Finset.univ.map ⟨csem, csem_injective⟩) fun s => cred (tallyOn ((c : Thread nD τ), s) (launchCredit (Pipeline.owing O₀) 0 ((c : Thread nD τ), s))) from by
      rw [BI.bigSep_map]
      exact (bigSep_congr fun x _ => congrArg cred (hc x)).symm]
    exact BI.bigSep_subset (Finset.subset_univ _)
  refine h.trans ?_
  rw [bigSep_Cx]
  unfold creds C4
  iintro ⟨⟨H0, H1⟩, H⟩
  isplitl [H0]; · iexact H0
  isplitl [H1]; · iexact H1
  iexact H

end Cert.KernelIdeal.Att

end
-- ==== Proof.KernelIdeal.BodyEq.lean ====
/- The printed body is the program of `Prog`. -/
module

public import proofs.«01_k».proof.Proof.KernelIdeal.Prog

@[expose] public section

set_option synthInstance.maxSize 4096
set_option maxRecDepth 1000000
set_option maxHeartbeats 0

noncomputable section

namespace Cert.KernelIdeal.Att

open Cert.KernelIdeal Cert.KernelIdeal.Gen
open Idealize.ShloMosaic Idealize.SL.Sem

variable {F : FTy → Type} [FloatOps F]

theorem printed_eq : cc0_body (F := F) mX (Memref.isWhole_whole _) mWq (Memref.isWhole_whole _) mWo (Memref.isWhole_whole _)
    mK (Memref.isWhole_whole _) mV (Memref.isWhole_whole _) mOut (Memref.isWhole_whole _) mAO (Memref.isWhole_whole _)
    mAS (Memref.isWhole_whole _) mSO (Memref.isWhole_whole _) mRO (Memref.isWhole_whole _) mSS (Memref.isWhole_whole _)
    mRS (Memref.isWhole_whole _) cc0_scratch6 cc0_scratch7 cc0_scratch8 cc0_scratch9 cc0_scoped0 = bodyP := by
  chain_rfl

theorem body_eq : bodyAt0 (F := F) t0_0 = bodyP := by
  rw [← printed_eq]

end Cert.KernelIdeal.Att

end
-- ==== Proof.KernelIdeal.Launch.lean ====
/- The launch: the cells' invariants allocated for all devices, the duty tokens dealt to their payers, the
   launch credit, and the run of @main to its final memory. -/
module

public import proofs.«01_k».proof.Proof.KernelIdeal.Deal
public import proofs.«01_k».proof.Proof.KernelIdeal.BodyEq
public import proofs.«01_k».proof.Proof.Gen.KernelIdeal.Launch
public import proofs.«01_k».proof.Proof.Gen.KernelIdeal.Points
public import Idealize.ShloMosaic.Lib.Pipeline.CollectiveSegs
public import Idealize.ShloMosaic.Lib.Pipeline.ValueKit.Geometry

@[expose] public section

set_option synthInstance.maxSize 4096

noncomputable section

namespace Cert.KernelIdeal.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The inputs as staged. -/
def ins : Ins F where
  x c := (win0_0.blk (0 : Fin 1)).view.read (Elt F) (m ((c : Thread nD τ).loc main_arg0))
  wq c := (win0_1.blk (0 : Fin 1)).view.read (Elt F) (m ((c : Thread nD τ).loc main_arg1))
  wo c := (win0_2.blk (0 : Fin 1)).view.read (Elt F) (m ((c : Thread nD τ).loc main_arg2))
  k c := (win0_3.blk (0 : Fin 1)).view.read (Elt F) (m ((c : Thread nD τ).loc main_arg3))
  v c := (win0_4.blk (0 : Fin 1)).view.read (Elt F) (m ((c : Thread nD τ).loc main_arg4))

/-! ## The scratch by slab -/

section Slabs
variable (c : Dev nD) (b : Ref sig .tc) (R : Fin 4 → Fin 4 → Finset b.ty.Idx)
  (hd : ∀ g k g' k' i, i ∈ R g k → i ∈ R g' k' → g = g' ∧ k = k') (hc : ∀ i, ∃ g k, i ∈ R g k)

include hd hc in
omit [FloatOps F] in
theorem slabs_cover : Finset.univ.biUnion (fun s : Fin 4 × Fin 4 => R s.2 s.1) = Finset.univ := by
  ext i; obtain ⟨g, k, h⟩ := hc i
  simp only [Finset.mem_biUnion, Finset.mem_univ, true_and, iff_true]
  exact ⟨(k, g), h⟩

include hd in
omit [FloatOps F] in
theorem slabs_disj : ∀ s ∈ (Finset.univ : Finset (Fin 4 × Fin 4)), ∀ s' ∈ (Finset.univ : Finset (Fin 4 × Fin 4)), s ≠ s' → Disjoint (R s.2 s.1) (R s'.2 s'.1) :=
  fun s _ s' _ hne => Finset.disjoint_left.mpr fun i h h' => hne (Prod.ext (hd _ _ _ _ i h h').2 (hd _ _ _ _ i h h').1)

include hd hc in
omit [FloatOps F] in
theorem slabs_split : iprop(∃ f, pB c b Finset.univ f) ⊢ (bigSep Finset.univ fun k => bigSep Finset.univ fun g => iprop(∃ f, pB c b (R g k) f) : sProp 𝕄) := by
  rw [← bigSep_univ_prod (fun s : Fin 4 × Fin 4 => iprop(∃ f, pB (F := F) c b (R s.2 s.1) f))]
  iintro ⟨%f, H⟩
  iapply (show (pB c b Finset.univ f : sProp 𝕄) ⊢ bigSep Finset.univ fun s : Fin 4 × Fin 4 => iprop(∃ f, pB (F := F) c b (R s.2 s.1) f) from by
    rw [← slabs_cover b R hd hc]
    refine (Entails.of_eq (pointsTo_biUnion (ℓ := (c : Thread nD τ).loc b) (q := fullShare) (f := f) Finset.univ (fun s : Fin 4 × Fin 4 => R s.2 s.1) (slabs_disj b R hd))).trans ?_
    refine bigSep_mono fun s _ => ?_
    show (pB c b (R s.2 s.1) f : sProp 𝕄) ⊢ iprop(∃ f, pB (F := F) c b (R s.2 s.1) f)
    iintro H; iexists f; iexact H) $$ H

include hd hc in
theorem slabs_join : (bigSep Finset.univ fun k => bigSep Finset.univ fun g => iprop(∃ f, pB c b (R g k) f) : sProp 𝕄) ⊢ iprop(∃ f, pB c b Finset.univ f) := by
  rw [← bigSep_univ_prod (fun s : Fin 4 × Fin 4 => iprop(∃ f, pB (F := F) c b (R s.2 s.1) f))]
  haveI : ∀ s : Fin 4 × Fin 4, Nonempty (b.ty.Contents (Elt F)) := fun _ => ⟨fun _ => Classical.choice inferInstance⟩
  iintro H
  ihave H := (BI.bigSep_exists_pi Finset.univ (fun (s : Fin 4 × Fin 4) (f : b.ty.Contents (Elt F)) => (pB c b (R s.2 s.1) f : sProp 𝕄))) $$ H
  icases H with ⟨%fs, H⟩
  ihave H := (pointsTo_biUnion_join (ℓ := (c : Thread nD τ).loc b) (q := fullShare) Finset.univ (fun s : Fin 4 × Fin 4 => R s.2 s.1) fs (fs (0, 0)) (slabs_disj b R hd)) $$ H
  icases H with ⟨%f, -, H⟩
  rw [slabs_cover b R hd hc]
  iexists f; iexact H

end Slabs

theorem rO_disj : ∀ (g k g' k' : Fin 4) (i : S4x4x2x2x64x128.Idx), i ∈ (rO g k).set → i ∈ (rO g' k').set → g = g' ∧ k = k' :=
  fun g k g' k' i h h' => by
    rw [mem_rO] at h h'; exact ⟨Fin.ext (h.1.symm.trans h'.1), Fin.ext (h.2.symm.trans h'.2)⟩
theorem rO_cover : ∀ i : S4x4x2x2x64x128.Idx, ∃ g k, i ∈ (rO g k).set := fun i => ⟨i 0, i 1, (mem_rO _ _ i).mpr ⟨rfl, rfl⟩⟩
theorem rS_disj : ∀ (g k g' k' : Fin 4) (i : S4x4x2x2x2x128.Idx), i ∈ (rS g k).set → i ∈ (rS g' k').set → g = g' ∧ k = k' :=
  fun g k g' k' i h h' => by
    rw [mem_rS] at h h'; exact ⟨Fin.ext (h.1.symm.trans h'.1), Fin.ext (h.2.symm.trans h'.2)⟩
theorem rS_cover : ∀ i : S4x4x2x2x2x128.Idx, ∃ g k, i ∈ (rS g k).set := fun i => ⟨i 0, i 1, (mem_rS _ _ i).mpr ⟨rfl, rfl⟩⟩

theorem scratch_intro (c : Dev nD) :
    iprop((∃ f, pB c cc0_scratch0 Finset.univ f) ∗ (∃ f, pB c cc0_scratch1 Finset.univ f) ∗ (∃ f, pB c cc0_scratch2 Finset.univ f)
      ∗ (∃ f, pB c cc0_scratch3 Finset.univ f) ∗ (∃ f, pB c cc0_scratch4 Finset.univ f) ∗ (∃ f, pB c cc0_scratch5 Finset.univ f)) ⊢ (scratch c : sProp 𝕄) := by
  unfold scratch anyS ownR anySO anySS anyRO anyRS
  simp only [bigSep_sep']
  iintro ⟨H0, H1, H2, H3, H4, H5⟩
  isplitl [H0]; · iexact H0
  isplitl [H1]; · iexact H1
  isplitl [H2 H4]
  · isplitl [H2]
    · iapply (slabs_split c cc0_scratch2 (fun g k => (rO g k).set) rO_disj rO_cover) $$ H2
    · iapply (slabs_split c cc0_scratch4 (fun g k => (rS g k).set) rS_disj rS_cover) $$ H4
  · isplitl [H3]
    · iapply (slabs_split c cc0_scratch3 (fun g k => (rO g k).set) rO_disj rO_cover) $$ H3
    · iapply (slabs_split c cc0_scratch5 (fun g k => (rS g k).set) rS_disj rS_cover) $$ H5

theorem scratch_elim (c : Dev nD) : (scratch c : sProp 𝕄)
    ⊢ iprop((∃ f, pB c cc0_scratch0 Finset.univ f) ∗ (∃ f, pB c cc0_scratch1 Finset.univ f) ∗ (∃ f, pB c cc0_scratch2 Finset.univ f)
      ∗ (∃ f, pB c cc0_scratch3 Finset.univ f) ∗ (∃ f, pB c cc0_scratch4 Finset.univ f) ∗ (∃ f, pB c cc0_scratch5 Finset.univ f)) := by
  unfold scratch anyS ownR anySO anySS anyRO anyRS
  simp only [bigSep_sep']
  iintro ⟨H0, H1, ⟨H2, H4⟩, H3, H5⟩
  isplitl [H0]; · iexact H0
  isplitl [H1]; · iexact H1
  isplitl [H2]; · iapply (slabs_join c cc0_scratch2 (fun g k => (rO g k).set) rO_disj rO_cover) $$ H2
  isplitl [H3]; · iapply (slabs_join c cc0_scratch3 (fun g k => (rO g k).set) rO_disj rO_cover) $$ H3
  isplitl [H4]; · iapply (slabs_join c cc0_scratch4 (fun g k => (rS g k).set) rS_disj rS_cover) $$ H4
  iapply (slabs_join c cc0_scratch5 (fun g k => (rS g k).set) rS_disj rS_cover) $$ H5

/-! ## The pipeline's proof data and the body's obligation -/

def start (c : Dev nD) : sProp 𝕄 := iprop((∃ K, records (ins m) K ∗ ghost c) ∗ creds c ∗ levAts L lv)
def Φ₀ (c : Dev nD) : sProp 𝕄 := iprop(start m c ∗ scratch c)
def Φ₁ (c : Dev nD) : sProp 𝕄 := iprop(scratch c ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x c
    | ⟨1, _⟩ => (ins m).wq c
    | ⟨2, _⟩ => (ins m).wo c
    | ⟨3, _⟩ => (ins m).k c
    | ⟨4, _⟩ => (ins m).v c
    | ⟨5, _⟩ => cOut (ins m) c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_held (c : Dev nD) (b : Ref sig .tc) (X Y : b.ty.Contents (Elt F)) (h : X = Y) : stg c b X ⊢ Held c b Finset.univ (fun _ => True) Y := by
  subst h
  iintro ⟨%f, %e, H⟩
  subst e
  iapply (held_intro c b Finset.univ f) $$ H

omit [FloatOps F] in
theorem held_stg (c : Dev nD) (b : Ref sig .tc) (X : b.ty.Contents (Elt F)) : Held c b Finset.univ (fun _ => True) X ⊢ stg c b X := by
  iintro H
  ihave H := (held_pts (b := b) (fun i _ => trivial)) $$ H
  iexists X; isplitr; · ipureintro; rfl
  iexact H

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ ∗ stg c cc0_stg0_0 ((ins m).x c) ∗ stg c cc0_stg1_0 ((ins m).wq c) ∗ stg c cc0_stg2_0 ((ins m).wo c)
    ∗ stg c cc0_stg3_0 ((ins m).k c) ∗ stg c cc0_stg4_0 ((ins m).v c) ∗ stg c cc0_stg5_0 (cOut (ins m) c))

theorem before_0 (c : Dev nD) (d) : (dats m ρ 0 c).before (0 : Fin 6) t0_0 d = (ins m).x c := by
  unfold Dat.before; rw [if_pos (fetch0_0 t0_0)]; rfl
theorem before_1 (c : Dev nD) (d) : (dats m ρ 0 c).before (1 : Fin 6) t0_0 d = (ins m).wq c := by
  unfold Dat.before; rw [if_pos (fetch0_1 t0_0)]; rfl
theorem before_2 (c : Dev nD) (d) : (dats m ρ 0 c).before (2 : Fin 6) t0_0 d = (ins m).wo c := by
  unfold Dat.before; rw [if_pos (fetch0_2 t0_0)]; rfl
theorem before_3 (c : Dev nD) (d) : (dats m ρ 0 c).before (3 : Fin 6) t0_0 d = (ins m).k c := by
  unfold Dat.before; rw [if_pos (fetch0_3 t0_0)]; rfl
theorem before_4 (c : Dev nD) (d) : (dats m ρ 0 c).before (4 : Fin 6) t0_0 d = (ins m).v c := by
  unfold Dat.before; rw [if_pos (fetch0_4 t0_0)]; rfl

theorem sound_body (c : Dev nD) : bodyPre m ρ c ⊢ WP c bodyP fun _ => bodyPost m ρ c := by
  unfold bodyPre Φ₀ start Dat.owesAt Pipeline.owesWithin
  rw [show (dats m ρ 0 c).owed t0_0.castSucc = O₀ c from rfl]
  iintro ⟨⟨⟨⟨%K, #HR, Hg⟩, Hcr, #Hlev⟩, Hscr⟩, ⟨%W, -, HO⟩, ⟨%d0, H0⟩, ⟨%d1, H1⟩, ⟨%d2, H2⟩, ⟨%d3, H3⟩, ⟨%d4, H4⟩, ⟨%d5, %f5, -, H5⟩⟩
  iapply (bodyP_spec (ins m) K c) $$ [Hg Hcr Hscr HO H0 H1 H2 H3 H4 H5]
  · isplitr; · iexact HR
    isplitr; · iexact Hlev
    isplitl [HO]; · unfold Owes; iexists W; iexact HO
    isplitl [H0]; · unfold Xin; iapply (stg_held c cc0_stg0_0 _ _ (before_0 m ρ c d0)) $$ H0
    isplitl [H1]; · unfold Wqin; iapply (stg_held c cc0_stg1_0 _ _ (before_1 m ρ c d1)) $$ H1
    isplitl [H2]; · unfold Win; iapply (stg_held c cc0_stg2_0 _ _ (before_2 m ρ c d2)) $$ H2
    isplitl [H3]; · unfold Kin; iapply (stg_held c cc0_stg3_0 _ _ (before_3 m ρ c d3)) $$ H3
    isplitl [H4]; · unfold Vin; iapply (stg_held c cc0_stg4_0 _ _ (before_4 m ρ c d4)) $$ H4
    isplitl [H5]; · iexists f5; iexact H5
    isplitl [Hscr]; · iexact Hscr
    isplitl [Hg] <;> iassumption
  unfold Owes Xin Wqin Win Kin Vin
  iintro ⟨⟨%W', HO⟩, H0, H1, H2, H3, H4, H5, Hscr, Hcl⟩
  unfold bodyPost Φ₁ Dat.owesAt Pipeline.owesWithin
  rw [show (dats m ρ 0 c).owed t0_0.succ = 0 from rfl]
  isplitl [Hscr Hcl]
  · isplitl [Hscr] <;> iassumption
  isplitl [HO]
  · iexists W'
    isplitr; · ipureintro; exact fun _ _ => Or.inl trivial
    iexact HO
  isplitl [H0]; · iapply (held_stg c cc0_stg0_0) $$ H0
  isplitl [H1]; · iapply (held_stg c cc0_stg1_0) $$ H1
  isplitl [H2]; · iapply (held_stg c cc0_stg2_0) $$ H2
  isplitl [H3]; · iapply (held_stg c cc0_stg3_0) $$ H3
  isplitl [H4]; · iapply (held_stg c cc0_stg4_0) $$ H4
  iexists _; isplitr; · ipureintro; rfl
  iexact H5

set_option maxRecDepth 40000 in
/-- The library's body obligation on core `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ (bodyAt0 (F := F) t0_0) (fun _ => bodyPost m ρ c)
  rw [body_eq]
  exact sound_body m ρ c

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iapply (scratch_intro c) $$ Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ closed
  iintro ⟨Hr, H0, H1, HZ⟩
  isplitl [H0]; · iexact H0
  isplitl [H1 HZ]
  · isplitl [H1] <;> iassumption
  iapply (scratch_elim c) $$ Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- What the run leaves in a window's array. -/
def final (c : Dev nD) (w : Fin cfg0.W) : Buf (Elt F) ((cfg0.win w).arr.view.loc (c : Thread nD τ)) := (dats m ρ 0 c).arrAt w cfg0.N

set_option maxRecDepth 40000 in
/-- From any memory with zero counters every run ends, the windows' arrays at `final` and every counter zero. -/
theorem run_main : θ_run defs (onTc (τ := τ) (main (F := F))) (s₀ m ρ)
    (fun r => (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      imod (fund_cells (ins m)) $$ HX with HG
      imodintro
      isplitl [HP] <;> iassumption)
    (hglob := glob (ins m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array is as it was. -/
theorem final_in (c : Dev nD) (w : Fin cfg0.W) (hw : (cfg0.win w).isOut = false) : final m ρ c w = (s₀ m ρ).mem ((cfg0.win w).arr.view.loc (c : Thread nD τ)) :=
  (dats (F := F) m ρ 0 c).arrAt_in w hw _

/-- The result's array holds what the body computed. -/
theorem final_out (c : Dev nD) : final m ρ c (5 : Fin 6) = cOut (ins m) c :=
  Pipeline.Dat.arrAt_eq_of_after_last (dats (F := F) m ρ 0 c) (5 : Fin 6) t0_0 (by decide +kernel) (cOut (ins m) c) (fun j => rfl)

/-! The staged inputs are the arguments. -/

theorem ins_x (c : Dev nD) : (ins m).x c = m ((c : Thread nD τ).loc main_arg0) :=
  funext fun y => congrArg (m ((c : Thread nD τ).loc main_arg0)) (funext fun a => Fin.ext
    (Pipeline.Window.rect_emb_val_of_index_zero win0_0 (0 : Fin 1) a ((by decide +kernel : ∀ a, win0_0.index (0 : Fin 1) a = 0) a) y))
theorem ins_wq (c : Dev nD) : (ins m).wq c = m ((c : Thread nD τ).loc main_arg1) :=
  funext fun y => congrArg (m ((c : Thread nD τ).loc main_arg1)) (funext fun a => Fin.ext
    (Pipeline.Window.rect_emb_val_of_index_zero win0_1 (0 : Fin 1) a ((by decide +kernel : ∀ a, win0_1.index (0 : Fin 1) a = 0) a) y))
theorem ins_wo (c : Dev nD) : (ins m).wo c = m ((c : Thread nD τ).loc main_arg2) :=
  funext fun y => congrArg (m ((c : Thread nD τ).loc main_arg2)) (funext fun a => Fin.ext
    (Pipeline.Window.rect_emb_val_of_index_zero win0_2 (0 : Fin 1) a ((by decide +kernel : ∀ a, win0_2.index (0 : Fin 1) a = 0) a) y))
theorem ins_k (c : Dev nD) : (ins m).k c = m ((c : Thread nD τ).loc main_arg3) :=
  funext fun y => congrArg (m ((c : Thread nD τ).loc main_arg3)) (funext fun a => Fin.ext
    (Pipeline.Window.rect_emb_val_of_index_zero win0_3 (0 : Fin 1) a ((by decide +kernel : ∀ a, win0_3.index (0 : Fin 1) a = 0) a) y))
theorem ins_v (c : Dev nD) : (ins m).v c = m ((c : Thread nD τ).loc main_arg4) :=
  funext fun y => congrArg (m ((c : Thread nD τ).loc main_arg4)) (funext fun a => Fin.ext
    (Pipeline.Window.rect_emb_val_of_index_zero win0_4 (0 : Fin 1) a ((by decide +kernel : ∀ a, win0_4.index (0 : Fin 1) a = 0) a) y))

/-- The run: the result array of every device at `cOut` of the arguments, the arguments as they were, every counter zero. -/
theorem run_values : θ_run defs (onTc (τ := τ) (main (F := F))) (s₀ m ρ)
    (fun r => (∀ c : Dev nD, r.2.mem ((c : Thread nD τ).loc main_v1) = cOut (ins m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) := by
  refine (run_main m ρ).mono fun r h => ⟨fun c => ⟨?_, ?_, ?_, ?_, ?_, ?_⟩, h.2⟩
  · exact (h.1 c (5 : Fin 6)).trans (final_out m ρ c)
  · exact (h.1 c (0 : Fin 6)).trans (final_in m ρ c (0 : Fin 6) rfl)
  · exact (h.1 c (1 : Fin 6)).trans (final_in m ρ c (1 : Fin 6) rfl)
  · exact (h.1 c (2 : Fin 6)).trans (final_in m ρ c (2 : Fin 6) rfl)
  · exact (h.1 c (3 : Fin 6)).trans (final_in m ρ c (3 : Fin 6) rfl)
  · exact (h.1 c (4 : Fin 6)).trans (final_in m ρ c (4 : Fin 6) rfl)

end Cert.KernelIdeal.Att

end
-- ==== Proof.Value.Softmax.lean ====
/-
  The state of a softmax over a set of keys, on the extended reals: the greatest score, the sum of the exponentials of
  the scores less it, and the values weighted by them; and what becomes of it when the greatest score grows and when two
  disjoint sets of keys are merged.
-/
module

public import Idealize.ShloMosaic.PureOps.Ideal.Laws

@[expose] public section

noncomputable section

namespace Cert.Softmax

open Idealize.ShloMosaic
open scoped BigOperators

/-! ## Factors that are neither negative nor infinite -/

theorem sum_mul_of_fin {ι : Type} (S : Finset ι) (f : ι → EReal) {c : EReal} (h0 : 0 ≤ c) (ht : c ≠ ⊤) :
    (∑ j ∈ S, f j) * c = ∑ j ∈ S, f j * c := by
  classical
  induction S using Finset.induction_on with
  | empty => simp
  | insert a S ha ih => rw [Finset.sum_insert ha, Finset.sum_insert ha, EReal.right_distrib_of_nonneg_of_ne_top h0 ht, ih]

/-! ## The weight of a score under a bound -/

/-- The weight of score `s` when `m` is the greatest. -/
def wt (s m : EReal) : EReal := Ideal.exp (s - m)

theorem wt_coe (s m : ℝ) : wt s m = ((Real.exp (s - m) : ℝ) : EReal) := by
  unfold wt
  rw [← EReal.coe_sub, Ideal.exp_coe]

theorem wt_bot (m : EReal) : wt ⊥ m = 0 := by
  unfold wt
  rw [EReal.bot_sub, Ideal.exp_bot]

theorem wt_top (s : EReal) : wt s ⊤ = 0 := by
  unfold wt
  rw [EReal.sub_top, Ideal.exp_bot]

theorem wt_nonneg {s m : EReal} (h : s ≤ m) : 0 ≤ wt s m := by
  induction s with
  | bot => rw [wt_bot]
  | top => rw [top_le_iff.mp h, wt_top]
  | coe s =>
    induction m with
    | bot => exact absurd h (by simp)
    | top => rw [wt_top]
    | coe m => rw [wt_coe]; exact EReal.coe_nonneg.mpr (Real.exp_pos _).le

theorem wt_ne_top {s m : EReal} (h : s ≤ m) : wt s m ≠ ⊤ := by
  induction s with
  | bot => rw [wt_bot]; exact EReal.zero_ne_top
  | top => rw [top_le_iff.mp h, wt_top]; exact EReal.zero_ne_top
  | coe s =>
    induction m with
    | bot => exact absurd h (by simp)
    | top => rw [wt_top]; exact EReal.zero_ne_top
    | coe m => rw [wt_coe]; exact EReal.coe_ne_top _

/-- Under a greater bound a weight is multiplied by the weight of the old bound. -/
theorem wt_mul {s m m' : EReal} (h : s ≤ m) (h' : m ≤ m') : wt s m * wt m m' = wt s m' := by
  induction m' with
  | top => rw [wt_top, wt_top, mul_zero]
  | bot => rw [le_bot_iff.mp h', le_bot_iff.mp (h.trans h'), wt_bot, mul_zero]
  | coe m' =>
    induction m with
    | top => exact absurd h' (by simp)
    | bot => rw [le_bot_iff.mp h, wt_bot, wt_bot, mul_zero]
    | coe m =>
      induction s with
      | top => exact absurd h (by simp)
      | bot => rw [wt_bot, wt_bot, zero_mul]
      | coe s =>
        rw [wt_coe, wt_coe, wt_coe, ← EReal.coe_mul, ← Real.exp_add]
        congr 2
        ring

/-! ## The state of a set of keys -/

variable {κ : Type} [DecidableEq κ]

/-- The greatest score, the sum of the weights and the weighted sum of the values. -/
def big (s : κ → EReal) (S : Finset κ) : EReal := S.sup s
def tot (s : κ → EReal) (S : Finset κ) (m : EReal) : EReal := ∑ j ∈ S, wt (s j) m
def acc (s v : κ → EReal) (S : Finset κ) (m : EReal) : EReal := ∑ j ∈ S, v j * wt (s j) m

omit [DecidableEq κ] in
theorem tot_scale (s : κ → EReal) (S : Finset κ) {m' : EReal} (h : big s S ≤ m') :
    tot s S (big s S) * wt (big s S) m' = tot s S m' := by
  unfold tot
  rw [sum_mul_of_fin _ _ (wt_nonneg h) (wt_ne_top h)]
  exact Finset.sum_congr rfl fun j hj => wt_mul (Finset.le_sup hj) h

omit [DecidableEq κ] in
theorem acc_scale (s v : κ → EReal) (S : Finset κ) {m' : EReal} (h : big s S ≤ m') :
    acc s v S (big s S) * wt (big s S) m' = acc s v S m' := by
  unfold acc
  rw [sum_mul_of_fin _ _ (wt_nonneg h) (wt_ne_top h)]
  exact Finset.sum_congr rfl fun j hj => by rw [mul_assoc, wt_mul (show s j ≤ big s S from Finset.le_sup hj) h]

theorem big_union (s : κ → EReal) (S T : Finset κ) : big s (S ∪ T) = max (big s S) (big s T) := Finset.sup_union

theorem tot_merge (s : κ → EReal) {S T : Finset κ} (h : Disjoint S T) :
    tot s S (big s S) * wt (big s S) (max (big s S) (big s T)) + tot s T (big s T) * wt (big s T) (max (big s S) (big s T))
      = tot s (S ∪ T) (big s (S ∪ T)) := by
  rw [tot_scale s S (le_max_left _ _), tot_scale s T (le_max_right _ _), big_union]
  exact (Finset.sum_union h).symm

theorem acc_merge (s v : κ → EReal) {S T : Finset κ} (h : Disjoint S T) :
    acc s v S (big s S) * wt (big s S) (max (big s S) (big s T))
        + acc s v T (big s T) * wt (big s T) (max (big s S) (big s T))
      = acc s v (S ∪ T) (big s (S ∪ T)) := by
  rw [acc_scale s v S (le_max_left _ _), acc_scale s v T (le_max_right _ _), big_union]
  exact (Finset.sum_union h).symm

/-! ## The state of the keys an embedding names -/

variable {ι : Type} [Fintype ι] (e : ι ↪ κ)

omit [DecidableEq κ] in
theorem big_map (s : κ → EReal) : big s (Finset.univ.map e) = Finset.univ.fold max ⊥ fun i => s (e i) := Finset.sup_map _ _ _
omit [DecidableEq κ] in
theorem tot_map (s : κ → EReal) (m : EReal) : tot s (Finset.univ.map e) m = ∑ i, wt (s (e i)) m := Finset.sum_map _ _ _
omit [DecidableEq κ] in
theorem acc_map (s v : κ → EReal) (m : EReal) : acc s v (Finset.univ.map e) m = ∑ i, v (e i) * wt (s (e i)) m :=
  Finset.sum_map _ _ _

end Cert.Softmax

end
-- ==== Proof.Value.Heads.lean ====
/-
  The kernel's values read at an index: a head's scores, maxima, sums and outputs, the merge of two states and the
  projection.
-/
module

public import proofs.«01_k».proof.Proof.KernelIdeal.Spec
public import proofs.«01_k».proof.Proof.Value.Softmax
public import Idealize.ShloMosaic.Lib.Pointwise

@[expose] public section

set_option maxRecDepth 16384
set_option synthInstance.maxSize 4096

noncomputable section

namespace Cert.KernelIdeal.Att.Val

open Cert.KernelIdeal Cert.KernelIdeal.Gen
open Idealize.ShloMosaic
open Cert.Softmax
open scoped BigOperators

/-! ## One head -/

theorem qV_at (x : Vec Ideal S2x128x512 .bf16) (w : Vec Ideal S512x512 .bf16) (b : Fin 2) (i : Fin 128) (f : Fin 512) :
    qV x w (ix2 ⟨128 * b.val + i.val, by omega⟩ f)
      = (∑ e : Fin 512, x (ix3 b i e) * w (ix2 e f)) * Ideal.ofBits .f32 0x3E000000#32 := by
  pointwise [k0_pay3]

theorem hS_at (q : FVec Ideal S256x512 .bf16) (b : Fin 2) (h : Fin 8) (k : Vec Ideal S1x128x1x64 .bf16) (j i : Fin 128) :
    hS q b h k (ix2 j i) = ∑ d : Fin 64, k (ix4 0 j 0 d) * q (ix2 ⟨128 * b.val + i.val, by omega⟩ ⟨64 * h.val + d.val, by omega⟩) := by
  pointwise [hS]

theorem hM_at (s : FVec Ideal S128x128 .f32) (i : Fin 128) :
    hM s (ix2 0 i) = Finset.univ.fold max (Ideal.ofBits .f32 0xFF800000#32) fun j : Fin 128 => s (ix2 j i) := by
  pointwise [hM]

theorem hP_at (s : FVec Ideal S128x128 .f32) (j i : Fin 128) : hP s (ix2 j i) = wt (s (ix2 j i)) (hM s (ix2 0 i)) := by
  pointwise [hP, wt]

theorem hL_at (s : FVec Ideal S128x128 .f32) (i : Fin 128) : hL s (ix2 0 i) = ∑ j : Fin 128, hP s (ix2 j i) := by
  pointwise [hL]

theorem hO_at (s : FVec Ideal S128x128 .f32) (v : Vec Ideal S1x128x1x64 .bf16) (d : Fin 64) (i : Fin 128) :
    hO s v (ix2 d i) = ∑ j : Fin 128, v (ix4 0 j 0 d) * hP s (ix2 j i) := by
  pointwise [hO]

theorem headOf_at (X : Vec Ideal S2x128x8x64 .bf16) (b : Fin 2) (h : Fin 8) (j : Fin 128) (d : Fin 64) :
    headOf X b h (ix4 0 j 0 d) = X (ix4 b j h d) := by
  pointwise [headOf, rKV]

/-! ## A merge -/

variable (a b : St Ideal)

theorem merge_m_at (p q : Fin 2) (i : Fin 128) : (merge a b).m (ix4 p q 0 i) = max (b.m (ix4 p q 0 i)) (a.m (ix4 p q 0 i)) := by
  show k0_pay192 (k0_pay201 a.m) b.m (ix4 p q 0 i) = _
  pointwise [k0_pay192, k0_pay191, k0_pay201]

theorem merge_l_at (p q : Fin 2) (i : Fin 128) :
    (merge a b).l (ix4 p q 0 i) = b.l (ix4 p q 0 i) * wt (b.m (ix4 p q 0 i)) (max (b.m (ix4 p q 0 i)) (a.m (ix4 p q 0 i)))
      + a.l (ix4 p q 0 i) * wt (a.m (ix4 p q 0 i)) (max (b.m (ix4 p q 0 i)) (a.m (ix4 p q 0 i))) := by
  show k0_pay196 (k0_pay201 a.m) (k0_pay202 a.l) b.m b.l (ix4 p q 0 i) = _
  pointwise [k0_pay196, k0_pay194, k0_pay193, k0_pay192, k0_pay191, k0_pay201, k0_pay202, wt]

theorem merge_o_at (p q : Fin 2) (d : Fin 64) (i : Fin 128) :
    (merge a b).o (ix4 p q d i) = b.o (ix4 p q d i) * wt (b.m (ix4 p q 0 i)) (max (b.m (ix4 p q 0 i)) (a.m (ix4 p q 0 i)))
      + a.o (ix4 p q d i) * wt (a.m (ix4 p q 0 i)) (max (b.m (ix4 p q 0 i)) (a.m (ix4 p q 0 i))) := by
  show k0_pay195 (k0_pay200 a.o) (k0_pay201 a.m) b.m b.o (ix4 p q d i) = _
  pointwise [k0_pay195, k0_pay194, k0_pay193, k0_pay192, k0_pay191, k0_pay200, k0_pay201, wt]

/-! ## The projection -/

/-- What one half of the heads adds to the result. -/
def half (o : Vec Ideal S2x4x64x128 .f32) (l : Vec Ideal S2x4x1x128 .f32) (w : Vec Ideal S256x512 .bf16) (b : Fin 2)
    (i : Fin 128) (n : Fin 512) : EReal :=
  ∑ f : Fin 256, Ideal.div (o (ix4 b ⟨f.val / 64, by omega⟩ ⟨f.val % 64, by omega⟩ i)) (l (ix4 b ⟨f.val / 64, by omega⟩ 0 i)) * w (ix2 f n)

theorem first_at (o o' : Vec Ideal S2x4x64x128 .f32) (l l' : Vec Ideal S2x4x1x128 .f32) (w w' : Vec Ideal S256x512 .bf16)
    (i : Fin 128) (n : Fin 512) :
    k0_pay1 (k0_pay375 (k0_pay372 o l) w) (k0_pay395 o' l' w') (ix3 0 i n) = half o l w 0 i n + half o' l' w' 0 i n := by
  pointwise [k0_pay1, k0_pay375, k0_pay374, k0_pay373, k0_pay372, k0_pay395, k0_pay394, k0_pay393, half]

theorem second_at (o o' : Vec Ideal S2x4x64x128 .f32) (l l' : Vec Ideal S2x4x1x128 .f32) (w w' : Vec Ideal S256x512 .bf16)
    (i : Fin 128) (n : Fin 512) :
    k0_pay2 (k0_pay376 (k0_pay372 o l) w) (k0_pay394 w') (k0_pay396 o' l') (ix3 0 i n) = half o l w 1 i n + half o' l' w' 1 i n := by
  pointwise [k0_pay2, k0_pay376, k0_pay374, k0_pay373, k0_pay372, k0_pay396, k0_pay394, k0_pay393, half]

end Cert.KernelIdeal.Att.Val

end
-- ==== Proof.Value.Reference.lean ====
/-
  The reference's result read at an index: for every batch, head and query the values weighted by the softmax of the
  scores over all 2048 keys, divided by the sum of the weights, then projected.
-/
module

public import proofs.«01_k».proof.Proof.Gen.ReferenceIdeal
public import proofs.«01_k».proof.Proof.Gen.ReferenceIdeal.Run
public import proofs.«01_k».proof.Proof.Value.Softmax
public import Idealize.ShloMosaic.Lib.Pointwise

@[expose] public section

set_option maxRecDepth 16384

noncomputable section

namespace Cert.ReferenceIdeal.Value

open Cert.ReferenceIdeal Cert.ReferenceIdeal.Gen
open Idealize.ShloMosaic
open Cert.Softmax
open scoped BigOperators

/-! ## The reference's text in layers -/

def lQ (x : FVec Ideal S2x128x512 .bf16) (w : FVec Ideal S512x512 .bf16) : FVec Ideal S2x128x8x64 .f32 :=
  shapeCast S2x128x8x64 (Host.dotGeneral dot_S2x128x512_S512x512_S2x128x512_2_0_01_1_n_n none
    (extf .f32 x bitsLt_bf16_f32) (extf .f32 w bitsLt_bf16_f32)) shapeCasts_S2x128x512_S2x128x8x64
def lChunk0 (k : FVec Ideal S2x2048x8x64 .bf16) : FVec Ideal S2x1024x8x64 .f32 :=
  extractStridedSlice S2x1024x8x64 ![0, 0, 0, 0] (extf .f32 k bitsLt_bf16_f32) slices_S2x2048x8x64_S2x1024x8x64_0_0_0_0
def lChunk1 (k : FVec Ideal S2x2048x8x64 .bf16) : FVec Ideal S2x1024x8x64 .f32 :=
  extractStridedSlice S2x1024x8x64 ![0, 1024, 0, 0] (extf .f32 k bitsLt_bf16_f32) slices_S2x2048x8x64_S2x1024x8x64_0_1024_0_0
def lS (q : FVec Ideal S2x128x8x64 .f32) (k : FVec Ideal S2x1024x8x64 .f32) : FVec Ideal S2x8x128x1024 .f32 :=
  mulf (Host.dotGeneral dot_S2x128x8x64_S2x1024x8x64_S2x8x128x1024_3_3_1_1_02_02 none q k)
    (broadcastInDim S2x8x128x1024 ![] bcast_S_S2x8x128x1024 (constant S_ .f32 0x3E000000#32))
def lM (m : FVec Ideal S2x8x128x1 .f32) (s : FVec Ideal S2x8x128x1024 .f32) : FVec Ideal S2x8x128x1 .f32 :=
  maximumf m (broadcastInDim S2x8x128x1 ![0, 1, 2] bcast_S2x8x128_S2x8x128x1_0_1_2
    (Host.reduce FloatOps.maximumf s (constant S_ .f32 0xFF800000#32) reducesTo_S2x8x128x1024_S2x8x128_d3 h_S_))
def lP (s : FVec Ideal S2x8x128x1024 .f32) (m : FVec Ideal S2x8x128x1 .f32) : FVec Ideal S2x8x128x1024 .f32 :=
  Host.exp (subf s (broadcastInDim S2x8x128x1024 ![0, 1, 2, 3] bcast_S2x8x128x1_S2x8x128x1024_0_1_2_3 m))
def lA (m m' : FVec Ideal S2x8x128x1 .f32) : FVec Ideal S2x8x128x1 .f32 := Host.exp (subf m m')
def lL (l a : FVec Ideal S2x8x128x1 .f32) (p : FVec Ideal S2x8x128x1024 .f32) : FVec Ideal S2x8x128x1 .f32 :=
  addf (mulf l a) (broadcastInDim S2x8x128x1 ![0, 1, 2] bcast_S2x8x128_S2x8x128x1_0_1_2
    (Host.reduceAdd p (constant S_ .f32 0x00000000#32) reducesTo_S2x8x128x1024_S2x8x128_d3 h_S_))
def lO (o : FVec Ideal S2x128x8x64 .f32) (a : FVec Ideal S2x8x128x1 .f32) (v : FVec Ideal S2x1024x8x64 .f32)
    (p : FVec Ideal S2x8x128x1024 .f32) : FVec Ideal S2x128x8x64 .f32 :=
  addf (mulf o (broadcastInDim S2x128x8x64 ![0, 1, 2, 3] bcast_S2x128x8x1_S2x128x8x64_0_1_2_3
      (transpose S2x128x8x1 [0, 2, 1, 3] a transposes_S2x8x128x1_S2x128x8x1_0_2_1_3)))
    (transpose S2x128x8x64 [0, 3, 1, 2] (Host.dotGeneral dot_S2x1024x8x64_S2x8x128x1024_S2x8x64x128_1_3_3_2_02_01 none v p)
      transposes_S2x8x64x128_S2x128x8x64_0_3_1_2)
def lOut (o : FVec Ideal S2x128x8x64 .f32) (l : FVec Ideal S2x8x128x1 .f32) (w : FVec Ideal S512x512 .bf16) : FVec Ideal S2x128x512 .f32 :=
  Host.dotGeneral dot_S2x128x512_S512x512_S2x128x512_2_0_01_1_n_n none
    (shapeCast S2x128x512 (Host.divf o (broadcastInDim S2x128x8x64 ![0, 1, 2, 3] bcast_S2x128x8x1_S2x128x8x64_0_1_2_3
      (transpose S2x128x8x1 [0, 2, 1, 3] l transposes_S2x8x128x1_S2x128x8x1_0_2_1_3))) shapeCasts_S2x128x8x64_S2x128x512)
    (extf .f32 w bitsLt_bf16_f32)
def lM0 : FVec Ideal S2x8x128x1 .f32 := broadcastInDim S2x8x128x1 ![] bcast_S_S2x8x128x1 (constant S_ .f32 0xFF800000#32)
def lL0 : FVec Ideal S2x8x128x1 .f32 := broadcastInDim S2x8x128x1 ![] bcast_S_S2x8x128x1 (constant S_ .f32 0x00000000#32)
def lO0 : FVec Ideal S2x128x8x64 .f32 := broadcastInDim S2x128x8x64 ![] bcast_S_S2x128x8x64 (constant S_ .f32 0x00000000#32)

/-- The whole result of the five arguments. -/
def refOut (x : FVec Ideal S2x128x512 .bf16) (wq wo : FVec Ideal S512x512 .bf16) (k v : FVec Ideal S2x2048x8x64 .bf16) :
    FVec Ideal S2x128x512 .f32 :=
  let s0 := lS (lQ x wq) (lChunk0 k)
  let s1 := lS (lQ x wq) (lChunk1 k)
  let m1 := lM lM0 s0
  let m2 := lM m1 s1
  let a1 := lA lM0 m1
  let a2 := lA m1 m2
  lOut (lO (lO lO0 a1 (lChunk0 v) (lP s0 m1)) a2 (lChunk1 v) (lP s1 m2))
    (lL (lL lL0 a1 (lP s0 m1)) a2 (lP s1 m2)) wo

theorem res_eq (m : (ℓ : Loc nD τ sig) → Buf (Elt Ideal) ℓ) (c : Dev nD) :
    res_main_v60 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold res_main_v60
  rfl

/-! ## Each layer at an index -/

theorem lQ_at (x : FVec Ideal S2x128x512 .bf16) (w : FVec Ideal S512x512 .bf16) (b : Fin 2) (i : Fin 128) (h : Fin 8) (d : Fin 64) :
    lQ x w (ix4 b i h d) = ∑ e : Fin 512, x (ix3 b i e) * w (ix2 e ⟨h.val * 64 + d.val, by omega⟩) := by
  pointwise [lQ]

theorem lS_at (q : FVec Ideal S2x128x8x64 .f32) (k : FVec Ideal S2x1024x8x64 .f32) (b : Fin 2) (h : Fin 8) (i : Fin 128) (j : Fin 1024) :
    lS q k (ix4 b h i j) = (∑ d : Fin 64, q (ix4 b i h d) * k (ix4 b j h d)) * Ideal.ofBits .f32 0x3E000000#32 := by
  pointwise [lS]

theorem lM_at (m : FVec Ideal S2x8x128x1 .f32) (s : FVec Ideal S2x8x128x1024 .f32) (b : Fin 2) (h : Fin 8) (i : Fin 128) :
    lM m s (ix4 b h i 0) = max (m (ix4 b h i 0)) (Finset.univ.fold max (Ideal.ofBits .f32 0xFF800000#32) fun j : Fin 1024 => s (ix4 b h i j)) := by
  pointwise [lM]

theorem lP_at (s : FVec Ideal S2x8x128x1024 .f32) (m : FVec Ideal S2x8x128x1 .f32) (b : Fin 2) (h : Fin 8) (i : Fin 128) (j : Fin 1024) :
    lP s m (ix4 b h i j) = wt (s (ix4 b h i j)) (m (ix4 b h i 0)) := by
  pointwise [lP, wt]

theorem lA_at (m m' : FVec Ideal S2x8x128x1 .f32) (j : S2x8x128x1.Idx) : lA m m' j = wt (m j) (m' j) := by
  pointwise [lA, wt]

theorem lL_at (l a : FVec Ideal S2x8x128x1 .f32) (p : FVec Ideal S2x8x128x1024 .f32) (b : Fin 2) (h : Fin 8) (i : Fin 128) :
    lL l a p (ix4 b h i 0) = l (ix4 b h i 0) * a (ix4 b h i 0) + ∑ j : Fin 1024, p (ix4 b h i j) := by
  pointwise [lL]

theorem lO_at (o : FVec Ideal S2x128x8x64 .f32) (a : FVec Ideal S2x8x128x1 .f32) (v : FVec Ideal S2x1024x8x64 .f32)
    (p : FVec Ideal S2x8x128x1024 .f32) (b : Fin 2) (i : Fin 128) (h : Fin 8) (d : Fin 64) :
    lO o a v p (ix4 b i h d) = o (ix4 b i h d) * a (ix4 b h i 0) + ∑ j : Fin 1024, v (ix4 b j h d) * p (ix4 b h i j) := by
  pointwise [lO]

theorem lOut_at (o : FVec Ideal S2x128x8x64 .f32) (l : FVec Ideal S2x8x128x1 .f32) (w : FVec Ideal S512x512 .bf16)
    (b : Fin 2) (i : Fin 128) (n : Fin 512) :
    lOut o l w (ix3 b i n) = ∑ f : Fin 512, Ideal.div (o (ix4 b i ⟨f.val / 64, by omega⟩ ⟨f.val % 64, by omega⟩))
      (l (ix4 b ⟨f.val / 64, by omega⟩ i 0)) * w (ix2 f n) := by
  pointwise [lOut]

theorem lChunk0_at (k : FVec Ideal S2x2048x8x64 .bf16) (b : Fin 2) (j : Fin 1024) (h : Fin 8) (d : Fin 64) :
    lChunk0 k (ix4 b j h d) = k (ix4 b ⟨j.val, by omega⟩ h d) := by
  pointwise [lChunk0]
theorem lChunk1_at (k : FVec Ideal S2x2048x8x64 .bf16) (b : Fin 2) (j : Fin 1024) (h : Fin 8) (d : Fin 64) :
    lChunk1 k (ix4 b j h d) = k (ix4 b ⟨1024 + j.val, by omega⟩ h d) := by
  pointwise [lChunk1]
theorem lM0_at (j : S2x8x128x1.Idx) : lM0 j = Ideal.ofBits .f32 0xFF800000#32 := by
  pointwise [lM0]
theorem lL0_at (j : S2x8x128x1.Idx) : lL0 j = 0 := by
  pointwise [lL0]
theorem lO0_at (j : S2x128x8x64.Idx) : lO0 j = 0 := by
  pointwise [lO0]

end Cert.ReferenceIdeal.Value

end
-- ==== Proof.Value.Closed.lean ====
/-
  The result as one formula of the five arguments, and the reference's two chunks of 1024 keys gathered into it.
-/
module

public import proofs.«01_k».proof.Proof.Value.Reference

@[expose] public section

set_option maxRecDepth 16384

noncomputable section

namespace Cert.Attention

open Idealize.ShloMosaic
open Cert.Softmax
open scoped BigOperators

abbrev X3 : Type := (⟨3, ![2, 128, 512]⟩ : Shape).Idx → EReal
abbrev W2 : Type := (⟨2, ![512, 512]⟩ : Shape).Idx → EReal
abbrev K4 : Type := (⟨4, ![2, 2048, 8, 64]⟩ : Shape).Idx → EReal

/-- An eighth, the scale of the scores. -/
abbrev eighth : EReal := Ideal.ofBits .f32 0x3E000000#32

theorem eighth_eq : eighth = (((1 : ℝ) / 8 : ℝ) : EReal) := by
  simp [Ideal.ofBits, Ideal.ieee, -EReal.coe_mul]
  norm_num
theorem eighth_nonneg : 0 ≤ eighth := by rw [eighth_eq]; exact EReal.coe_nonneg.mpr (by norm_num)
theorem eighth_ne_top : eighth ≠ ⊤ := by rw [eighth_eq]; exact EReal.coe_ne_top _
theorem lowest_eq : Ideal.ofBits .f32 0xFF800000#32 = ⊥ := by simp [Ideal.ofBits, Ideal.ieee]

variable (x : X3) (wq wo : W2) (k v : K4)

/-- The queries, the scores of a query over the keys, and a column of the values over the keys. -/
def qry (b : Fin 2) (i : Fin 128) (h : Fin 8) (d : Fin 64) : EReal :=
  ∑ e : Fin 512, x (ix3 b i e) * wq (ix2 e ⟨h.val * 64 + d.val, by omega⟩)
def scr (b : Fin 2) (h : Fin 8) (i : Fin 128) (j : Fin 2048) : EReal :=
  (∑ d : Fin 64, qry x wq b i h d * k (ix4 b j h d)) * eighth
def col (b : Fin 2) (h : Fin 8) (d : Fin 64) (j : Fin 2048) : EReal := v (ix4 b j h d)

/-- The attention of a query, and its projection. -/
def att (b : Fin 2) (h : Fin 8) (i : Fin 128) (d : Fin 64) : EReal :=
  Ideal.div (acc (scr x wq k b h i) (col v b h d) Finset.univ (big (scr x wq k b h i) Finset.univ))
    (tot (scr x wq k b h i) Finset.univ (big (scr x wq k b h i) Finset.univ))
def res (b : Fin 2) (i : Fin 128) (n : Fin 512) : EReal :=
  ∑ f : Fin 512, att x wq k v b ⟨f.val / 64, by omega⟩ i ⟨f.val % 64, by omega⟩ * wo (ix2 f n)

/-! ## The two chunks -/

def low : Fin 1024 ↪ Fin 2048 := ⟨fun j => ⟨j.val, by omega⟩, fun a b h => Fin.ext (Fin.mk.inj h)⟩
def high : Fin 1024 ↪ Fin 2048 :=
  ⟨fun j => ⟨1024 + j.val, by omega⟩, fun a b h => Fin.ext (Nat.add_left_cancel (Fin.mk.inj h))⟩
abbrev Low : Finset (Fin 2048) := Finset.univ.map low
abbrev High : Finset (Fin 2048) := Finset.univ.map high

theorem low_high : Disjoint Low High := by
  rw [Finset.disjoint_left]
  intro j h h'
  obtain ⟨a, _, rfl⟩ := Finset.mem_map.mp h
  obtain ⟨b, _, hb⟩ := Finset.mem_map.mp h'
  have : 1024 + b.val = a.val := congrArg Fin.val hb
  omega
theorem low_or_high : Low ∪ High = Finset.univ := by
  ext j
  simp only [Finset.mem_union, Finset.mem_map, Finset.mem_univ, true_and, iff_true]
  by_cases h : j.val < 1024
  · exact .inl ⟨⟨j.val, h⟩, rfl⟩
  · exact .inr ⟨⟨j.val - 1024, by omega⟩, Fin.ext (show 1024 + (j.val - 1024) = j.val by omega)⟩

open Cert.ReferenceIdeal Cert.ReferenceIdeal.Value

theorem s0_at (b : Fin 2) (h : Fin 8) (i : Fin 128) (j : Fin 1024) :
    lS (lQ x wq) (lChunk0 k) (ix4 b h i j) = scr x wq k b h i (low j) := by
  rw [lS_at]
  simp only [lQ_at, lChunk0_at]
  rfl
theorem s1_at (b : Fin 2) (h : Fin 8) (i : Fin 128) (j : Fin 1024) :
    lS (lQ x wq) (lChunk1 k) (ix4 b h i j) = scr x wq k b h i (high j) := by
  rw [lS_at]
  simp only [lQ_at, lChunk1_at]
  rfl
theorem m1_at (b : Fin 2) (h : Fin 8) (i : Fin 128) :
    lM lM0 (lS (lQ x wq) (lChunk0 k)) (ix4 b h i 0) = big (scr x wq k b h i) Low := by
  rw [lM_at, lM0_at, lowest_eq, max_eq_right bot_le, big_map]
  simp only [s0_at]
theorem m2_at (m : FVec Ideal S2x8x128x1 .f32) (b : Fin 2) (h : Fin 8) (i : Fin 128) :
    lM m (lS (lQ x wq) (lChunk1 k)) (ix4 b h i 0) = max (m (ix4 b h i 0)) (big (scr x wq k b h i) High) := by
  rw [lM_at, lowest_eq, big_map]
  simp only [s1_at]

/-- The reference's result at an index. -/
theorem refOut_at (b : Fin 2) (i : Fin 128) (n : Fin 512) : refOut x wq wo k v (ix3 b i n) = res x wq wo k v b i n := by
  unfold refOut res
  rw [lOut_at]
  refine Finset.sum_congr rfl fun f _ => congrArg (· * wo (ix2 f n)) ?_
  generalize (⟨f.val / 64, by omega⟩ : Fin 8) = h
  generalize (⟨f.val % 64, by omega⟩ : Fin 64) = d
  rw [lO_at, lO_at, lL_at, lL_at, lL0_at, lO0_at, zero_mul, zero_add, zero_add]
  simp only [lP_at, lA_at, m2_at, m1_at, s0_at, s1_at, lChunk0_at, lChunk1_at]
  unfold att
  rw [← low_or_high, big_union]
  rw [show (∑ j : Fin 1024, wt (scr x wq k b h i (low j)) (big (scr x wq k b h i) Low))
      = tot (scr x wq k b h i) Low (big (scr x wq k b h i) Low) from (tot_map low _ _).symm, tot_scale _ _ (le_max_left _ _)]
  rw [show (∑ j : Fin 1024, v (ix4 b ⟨j.val, by omega⟩ h d) * wt (scr x wq k b h i (low j)) (big (scr x wq k b h i) Low))
      = acc (scr x wq k b h i) (col v b h d) Low (big (scr x wq k b h i) Low) from (acc_map low _ (col v b h d) _).symm,
    acc_scale _ _ _ (le_max_left _ _)]
  refine congrArg₂ Ideal.div ?_ ?_
  · refine Eq.trans ?_ (Finset.sum_union low_high).symm
    exact congrArg _ (acc_map high _ (col v b h d) _).symm
  · refine Eq.trans ?_ (Finset.sum_union low_high).symm
    exact congrArg _ (tot_map high _ _).symm

end Cert.Attention

end
-- ==== Proof.Value.Merged.lean ====
/-
  The state of every group on every device after its merges is the softmax state of the keys of the devices it has
  heard from, each of them once; after four merges these are all sixteen, so every device's result is the formula of
  `Cert.Attention`.
-/
module

public import proofs.«01_k».proof.Proof.Value.Heads
public import proofs.«01_k».proof.Proof.Value.Closed

@[expose] public section

set_option maxRecDepth 16384
set_option synthInstance.maxSize 4096

noncomputable section

namespace Cert.KernelIdeal.Att.Val

open Cert.KernelIdeal Cert.KernelIdeal.Gen
open Idealize.ShloMosaic
open Cert.Softmax Cert.Attention
open scoped BigOperators

/-! ## The devices heard from -/

/-- The devices whose keys group `g` of device `c` holds after `n` merges. -/
def seen : ℕ → Fin 4 → Dev nD → Finset (Dev nD)
  | 0, _, c => {c}
  | n + 1, g, c => seen n g c ∪ seen n g (peer (mk g (Fin.ofNat 4 n)) c)

theorem seen_disjoint : ∀ (n g : Fin 4) (c : Dev nD), Disjoint (seen n.val g c) (seen n.val g (peer (mk g (Fin.ofNat 4 n.val)) c)) := by
  decide +kernel
theorem seen_all : ∀ (g : Fin 4) (c : Dev nD), seen 4 g c = Finset.univ := by decide +kernel

/-- The device that holds a key, and the keys of a set of devices. -/
def owner (j : Fin 2048) : Dev nD := ⟨j.val / 128, by have := j.isLt; show j.val / 128 < 16; omega⟩
def keys (D : Finset (Dev nD)) : Finset (Fin 2048) := Finset.univ.filter fun j => owner j ∈ D
/-- Key `j` of device `c` among all the keys. -/
def own (c : Dev nD) : Fin 128 ↪ Fin 2048 :=
  ⟨fun j => ⟨c.val * 128 + j.val, by have h : c.val < 16 := c.isLt; omega⟩,
    fun a b h => Fin.ext (Nat.add_left_cancel (Fin.mk.inj h))⟩

theorem keys_one (c : Dev nD) : keys {c} = Finset.univ.map (own c) := by
  ext j
  simp only [keys, Finset.mem_filter, Finset.mem_univ, true_and, Finset.mem_singleton, Finset.mem_map]
  constructor
  · intro h
    have h : j.val / 128 = c.val := congrArg Fin.val h
    exact ⟨⟨j.val % 128, by omega⟩, Fin.ext (show c.val * 128 + j.val % 128 = j.val by omega)⟩
  · rintro ⟨a, rfl⟩
    exact Fin.ext (show (c.val * 128 + a.val) / 128 = c.val by omega)
theorem keys_or (D E : Finset (Dev nD)) : keys (D ∪ E) = keys D ∪ keys E := by
  unfold keys
  rw [← Finset.filter_or]
  exact Finset.filter_congr fun j _ => Finset.mem_union
theorem keys_disjoint {D E : Finset (Dev nD)} (h : Disjoint D E) : Disjoint (keys D) (keys E) := by
  rw [Finset.disjoint_left]
  intro j hD hE
  exact Finset.disjoint_left.mp h (Finset.mem_filter.mp hD).2 (Finset.mem_filter.mp hE).2
theorem keys_all : keys Finset.univ = Finset.univ := by
  unfold keys
  exact Finset.filter_true_of_mem fun j _ => Finset.mem_univ _

/-! ## One device's heads -/

variable (I : Ins Ideal) (x : X3) (wq wo : W2) (k v : K4)

/-- What every device is given: the replicated arguments whole, its block of the keys and values. -/
structure Given : Prop where
  x : ∀ c, I.x c = x
  wq : ∀ c, I.wq c = wq
  wo : ∀ c, I.wo c = wo
  k : ∀ c b j h d, I.k c (ix4 b j h d) = k (ix4 b (own c j) h d)
  v : ∀ c b j h d, I.v c (ix4 b j h d) = v (ix4 b (own c j) h d)

variable {I x wq wo k v} (H : Given I x wq wo k v)
include H

theorem scV_at (c : Dev nD) (b : Fin 2) (h : Fin 8) (j i : Fin 128) :
    scV I c b h (ix2 j i) = scr x wq k b h i (own c j) := by
  unfold scV scr
  rw [hS_at, H.x, H.wq, sum_mul_of_fin _ _ eighth_nonneg eighth_ne_top]
  refine Finset.sum_congr rfl fun d _ => ?_
  rw [qV_at, headOf_at, H.k, ← mul_assoc, mul_comm (k _)]
  refine congrArg (· * k (ix4 b (own c j) h d) * eighth) ?_
  unfold qry
  refine Finset.sum_congr rfl fun e _ => ?_
  rw [show (⟨64 * h.val + d.val, by omega⟩ : Fin 512) = ⟨h.val * 64 + d.val, by omega⟩ from
    Fin.ext (by show 64 * h.val + d.val = h.val * 64 + d.val; omega)]

theorem hM_scV (c : Dev nD) (b : Fin 2) (h : Fin 8) (i : Fin 128) :
    hM (scV I c b h) (ix2 0 i) = big (scr x wq k b h i) (keys {c}) := by
  rw [hM_at, lowest_eq, keys_one, big_map]
  simp only [scV_at H]

theorem hP_scV (c : Dev nD) (b : Fin 2) (h : Fin 8) (j i : Fin 128) :
    hP (scV I c b h) (ix2 j i) = wt (scr x wq k b h i (own c j)) (big (scr x wq k b h i) (keys {c})) := by
  rw [hP_at, hM_scV H, scV_at H]

theorem hL_scV (c : Dev nD) (b : Fin 2) (h : Fin 8) (i : Fin 128) :
    hL (scV I c b h) (ix2 0 i) = tot (scr x wq k b h i) (keys {c}) (big (scr x wq k b h i) (keys {c})) := by
  rw [hL_at]
  simp only [hP_scV H]
  rw [keys_one, tot_map]

theorem hO_scV (c : Dev nD) (b : Fin 2) (h : Fin 8) (d : Fin 64) (i : Fin 128) :
    hO (scV I c b h) (headOf (I.v c) b h) (ix2 d i)
      = acc (scr x wq k b h i) (col v b h d) (keys {c}) (big (scr x wq k b h i) (keys {c})) := by
  rw [hO_at]
  simp only [hP_scV H, headOf_at, H.v]
  rw [keys_one, acc_map]
  rfl

/-! ## The merges -/

section
attribute [local irreducible] hM hL hO
omit H in
theorem st0_m_at (g : Fin 4) (c : Dev nD) (b q : Fin 2) (i : Fin 128) :
    (st0 I g c).m (ix4 b q 0 i) = hM (scV I c b (headNo g q)) (ix2 0 i) := by
  rw [ix2_eq_valueIdx]
  unfold st0
  rfl
omit H in
theorem st0_l_at (g : Fin 4) (c : Dev nD) (b q : Fin 2) (i : Fin 128) :
    (st0 I g c).l (ix4 b q 0 i) = hL (scV I c b (headNo g q)) (ix2 0 i) := by
  rw [ix2_eq_valueIdx]
  unfold st0
  rfl
omit H in
theorem st0_o_at (g : Fin 4) (c : Dev nD) (b q : Fin 2) (d : Fin 64) (i : Fin 128) :
    (st0 I g c).o (ix4 b q d i) = hO (scV I c b (headNo g q)) (headOf (I.v c) b (headNo g q)) (ix2 d i) := by
  rw [ix2_eq_valueIdx]
  unfold st0
  rfl

end

/-- The state of group `g` on device `c` after `n` merges, read at one head, query and value. -/
theorem st_at (n : ℕ) (hn : n ≤ 4) (g : Fin 4) (c : Dev nD) (b q : Fin 2) (i : Fin 128) :
    (st I n g c).m (ix4 b q 0 i) = big (scr x wq k b (headNo g q) i) (keys (seen n g c))
    ∧ (st I n g c).l (ix4 b q 0 i)
      = tot (scr x wq k b (headNo g q) i) (keys (seen n g c)) (big (scr x wq k b (headNo g q) i) (keys (seen n g c)))
    ∧ ∀ d : Fin 64, (st I n g c).o (ix4 b q d i)
      = acc (scr x wq k b (headNo g q) i) (col v b (headNo g q) d) (keys (seen n g c))
          (big (scr x wq k b (headNo g q) i) (keys (seen n g c))) := by
  induction n generalizing c with
  | zero =>
    rw [show st I 0 g c = st0 I g c from rfl, show seen 0 g c = {c} from rfl]
    exact ⟨(st0_m_at g c b q i).trans (hM_scV H c b (headNo g q) i), (st0_l_at g c b q i).trans (hL_scV H c b (headNo g q) i),
      fun d => (st0_o_at g c b q d i).trans (hO_scV H c b (headNo g q) d i)⟩
  | succ n ih =>
    obtain ⟨om, ol, oo⟩ := ih (by omega) c
    obtain ⟨pm, pl, po⟩ := ih (by omega) (peer (mk g (Fin.ofNat 4 n)) c)
    have hd := keys_disjoint (seen_disjoint ⟨n, by omega⟩ g c)
    show (merge _ _).m _ = _ ∧ (merge _ _).l _ = _ ∧ ∀ d, (merge _ _).o _ = _
    rw [show keys (seen (n + 1) g c) = keys (seen n g c) ∪ keys (seen n g (peer (mk g (Fin.ofNat 4 n)) c)) from keys_or _ _]
    refine ⟨?_, ?_, fun d => ?_⟩
    · rw [merge_m_at, om, pm, big_union]
    · rw [merge_l_at, om, pm, ol, pl]
      exact tot_merge _ hd
    · rw [merge_o_at, om, pm, oo, po]
      exact acc_merge _ _ hd

omit H in
theorem headNo_grp (h : Fin 8) : headNo (grp h) (par h) = h := Fin.ext (by show 2 * (h.val / 2) + h.val % 2 = h.val; omega)

/-- The accumulators after the last merge. -/
theorem cAO_at (c : Dev nD) (b : Fin 2) (h : Fin 8) (d : Fin 64) (i : Fin 128) :
    cAO I (fun _ => 4) c (ix4 b h d i)
      = acc (scr x wq k b h i) (col v b h d) Finset.univ (big (scr x wq k b h i) Finset.univ) := by
  have := (st_at H 4 le_rfl (grp h) c b (par h) i).2.2 d
  rw [headNo_grp, seen_all, keys_all] at this
  exact this
theorem cAS_at (c : Dev nD) (b : Fin 2) (h : Fin 8) (i : Fin 128) :
    cAS I (fun _ => 4) c (ix4 b h 1 i) = tot (scr x wq k b h i) Finset.univ (big (scr x wq k b h i) Finset.univ) := by
  have := (st_at H 4 le_rfl (grp h) c b (par h) i).2.1
  rw [headNo_grp, seen_all, keys_all] at this
  exact this

/-! ## The projection and the result -/

omit H in
theorem finO_at (c : Dev nD) (p b : Fin 2) (h : Fin 4) (d : Fin 64) (i : Fin 128) :
    finO I c p (ix4 b h d i) = cAO I (fun _ => 4) c (ix4 b ⟨4 * p.val + h.val, by omega⟩ d i) := by
  refine congrArg (cAO I (fun _ => 4) c) (funext fun a => Fin.ext ?_)
  fin_cases a <;> simp [LoadRect.idx, ix4]
omit H in
theorem finL_at (c : Dev nD) (p b : Fin 2) (h : Fin 4) (i : Fin 128) :
    finL I c p (ix4 b h 0 i) = cAS I (fun _ => 4) c (ix4 b ⟨4 * p.val + h.val, by omega⟩ 1 i) := by
  refine congrArg (cAS I (fun _ => 4) c) (funext fun a => Fin.ext ?_)
  fin_cases a <;> simp [LoadRect.idx, ix4]
omit H in
theorem woV_at (c : Dev nD) (p : Fin 2) (f : Fin 256) (n : Fin 512) :
    woV I c p (ix2 f n) = I.wo c (ix2 ⟨256 * p.val + f.val, by omega⟩ n) := by
  refine congrArg (I.wo c) (funext fun a => Fin.ext ?_)
  fin_cases a <;> simp [LoadRect.idx, ix2]

theorem half_at (c : Dev nD) (p b : Fin 2) (i : Fin 128) (n : Fin 512) :
    half (finO I c p) (finL I c p) (woV I c p) b i n
      = ∑ f : Fin 256, att x wq k v b ⟨(256 * p.val + f.val) / 64, by omega⟩ i ⟨(256 * p.val + f.val) % 64, by omega⟩
          * wo (ix2 ⟨256 * p.val + f.val, by omega⟩ n) := by
  unfold half
  refine Finset.sum_congr rfl fun f _ => ?_
  rw [finO_at, finL_at, woV_at, cAO_at H, cAS_at H, H.wo]
  unfold att
  rw [show (⟨4 * p.val + f.val / 64, by omega⟩ : Fin 8) = ⟨(256 * p.val + f.val) / 64, by omega⟩ from
      Fin.ext (by show 4 * p.val + f.val / 64 = (256 * p.val + f.val) / 64; omega),
    show (⟨f.val % 64, by omega⟩ : Fin 64) = ⟨(256 * p.val + f.val) % 64, by omega⟩ from
      Fin.ext (by show f.val % 64 = (256 * p.val + f.val) % 64; omega)]

theorem halves (c : Dev nD) (b : Fin 2) (i : Fin 128) (n : Fin 512) :
    half (finO I c 0) (finL I c 0) (woV I c 0) b i n + half (finO I c 1) (finL I c 1) (woV I c 1) b i n = res x wq wo k v b i n := by
  rw [half_at H, half_at H]
  unfold res
  rw [Fin.sum_univ_two_halves 256 256 rfl]
  refine congrArg₂ (· + ·) (Finset.sum_congr rfl fun f _ => ?_) rfl
  simp

/-- Every device's result. -/
theorem cOut_at (c : Dev nD) (b : Fin 2) (i : Fin 128) (n : Fin 512) : cOut I c (ix3 b i n) = res x wq wo k v b i n := by
  obtain rfl | rfl : b = 0 ∨ b = 1 := by omega
  · exact (first_at _ _ _ _ _ _ i n).trans (halves H c 0 i n)
  · exact (second_at _ _ _ _ _ _ i n).trans (halves H c 1 i n)

theorem cOut_eq (c : Dev nD) : cOut I c = Cert.ReferenceIdeal.Value.refOut x wq wo k v := by
  funext j
  obtain ⟨b, i, n, rfl⟩ : ∃ (b : Fin 2) (i : Fin 128) (n : Fin 512), j = ix3 b i n := ⟨j 0, j 1, j 2, eq_ix3 j⟩
  rw [cOut_at H, refOut_at]

omit H in
/-- Device `c`'s block of an array of keys (or values) at an index. -/
theorem block_at (X : K4) (c : Dev nD) (b : Fin 2) (j : Fin 128) (h : Fin 8) (d : Fin 64) :
    Layout.block ⟨4, ![2, 128, 8, 64]⟩ ⟨4, ![2, 2048, 8, 64]⟩ 1 16 c X (by decide) (ix4 b j h d) = X (ix4 b (own c j) h d) := by
  refine congrArg X (funext fun a => Fin.ext ?_)
  fin_cases a <;> rfl

end Cert.KernelIdeal.Att.Val

end
-- ==== Proof.lean ====
/- The certificate's claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Merged
public import Idealize.ShloMosaic.Lib.Claim

@[expose] public section

noncomputable section

namespace Cert.Proof

open Idealize.ShloMosaic Idealize.SL.Sem

theorem frame_kernel : Cert.quiescent_Kernel := fun m g _ => (Cert.Kernel.Att.run_values m g).mono fun _ h => ⟨fun c => (h.1 c).2, h.2⟩

theorem frame_kernelIdeal : Cert.quiescent_KernelIdeal := fun m g _ => (Cert.KernelIdeal.Att.run_values m g).mono fun _ h => ⟨fun c => (h.1 c).2, h.2⟩

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem equal : Cert.algebraic_KernelIdeal_ReferenceIdeal := fun m g m' g' _ h => by
  have given : Cert.KernelIdeal.Att.Val.Given (Cert.KernelIdeal.Att.ins m) _ _ _ _ _ :=
    { x := fun c => (Cert.KernelIdeal.Att.ins_x m c).trans (h c).1
      wq := fun c => (Cert.KernelIdeal.Att.ins_wq m c).trans (h c).2.1
      wo := fun c => (Cert.KernelIdeal.Att.ins_wo m c).trans (h c).2.2.1
      k := fun c b j hd d => (congrFun ((Cert.KernelIdeal.Att.ins_k m c).trans (h c).2.2.2.1) _).trans
        (Cert.KernelIdeal.Att.Val.block_at _ c b j hd d)
      v := fun c b j hd d => (congrFun ((Cert.KernelIdeal.Att.ins_v m c).trans (h c).2.2.2.2) _).trans
        (Cert.KernelIdeal.Att.Val.block_at _ c b j hd d) }
  refine ⟨Cert.ReferenceIdeal.Value.res_main_v60 m' 0, ?_, ?_⟩
  · exact (Cert.KernelIdeal.Att.run_values m g).mono fun r hr c => ⟨(hr.1 c).1.trans
      ((Cert.KernelIdeal.Att.Val.cOut_eq given c).trans (Cert.ReferenceIdeal.Value.res_eq m' 0).symm), (hr.1 c).2⟩
  · exact (θ_run Cert.ReferenceIdeal.defs _ _).mono (fun r hr => hr 0) (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_reference, trivial, equal⟩

end Cert.Proof

end
